-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x4x157 : Shape := ⟨3, ![4096, 4, 157]⟩
abbrev S45x16 : Shape := ⟨2, ![45, 16]⟩
abbrev S1x16 : Shape := ⟨2, ![1, 16]⟩
abbrev S146x16 : Shape := ⟨2, ![146, 16]⟩
abbrev S157x16 : Shape := ⟨2, ![157, 16]⟩
abbrev S11 : Shape := ⟨1, ![11]⟩
abbrev S4096x4x11 : Shape := ⟨3, ![4096, 4, 11]⟩
abbrev S1x1x11 : Shape := ⟨3, ![1, 1, 11]⟩
abbrev S_ : Shape := ⟨0, ![]⟩
abbrev S4096x4x146 : Shape := ⟨3, ![4096, 4, 146]⟩

class Facts : Prop where
  slices_S4096x4x157_S4096x4x11_0_0_0 : S4096x4x157.Slices ![0, 0, 0] S4096x4x11
  bcast_S11_S1x1x11_2 : S11.BroadcastsInDim S1x1x11 (![2] : Fin 1 → Fin S1x1x11.rank)
  bcast_S_S4096x4x11 : S_.BroadcastsInDim S4096x4x11 (![] : Fin 0 → Fin S4096x4x11.rank)
  bcast_S1x1x11_S4096x4x11_0_1_2 : S1x1x11.BroadcastsInDim S4096x4x11 (![0, 1, 2] : Fin 3 → Fin S4096x4x11.rank)
  slices_S4096x4x157_S4096x4x146_0_0_11 : S4096x4x157.Slices ![0, 0, 11] S4096x4x146
  bcast_S_S4096x4x146 : S_.BroadcastsInDim S4096x4x146 (![] : Fin 0 → Fin S4096x4x146.rank)
  concatenates_S4096x4x11_S4096x4x146_S4096x4x157_d2 : Shape.Concatenates [S4096x4x11, S4096x4x146] S4096x4x157 2

variable [Facts]

noncomputable abbrev lit0 : Fin 11 → BitVec 32 := fun
  | 0 => 2#32 | 1 => 2#32 | 2 => 2#32 | 3 => 2#32 | 4 => 3#32 | 5 => 3#32 | 6 => 4#32 | 7 => 6#32
  | 8 => 7#32 | 9 => 7#32 | 10 => 7#32
  | _ => 0#32

def fn {F : FTy → Type} [FloatOps F] (main_arg0 : FVec F S4096x4x157 .f32) (main_arg1 : FVec F S45x16 .f32) (main_arg2 : FVec F S1x16 .f32) (main_arg3 : FVec F S146x16 .f32) (main_arg4 : FVec F S146x16 .f32) (main_arg5 : FVec F S157x16 .f32) : IVec S4096x4x157 1 :=
  let main_c : IVec S11 32 := fun i => lit0 (S11.rowMajor i)
  let main_v0 : FVec F S4096x4x11 .f32 := (extractStridedSlice S4096x4x11 ![0, 0, 0] · slices_S4096x4x157_S4096x4x11_0_0_0) main_arg0
  let main_v1 : IVec S4096x4x11 32 := fptosi 32 main_v0
  let main_v2 : IVec S1x1x11 32 := broadcastInDim S1x1x11 ![2] bcast_S11_S1x1x11_2 main_c
  let main_c_0 : IVec S_ 32 := constantI S_ 32 0#32
  let main_v3 : IVec S4096x4x11 32 := broadcastInDim S4096x4x11 ![] bcast_S_S4096x4x11 main_c_0
  let main_v4 : IVec S4096x4x11 1 := cmpi .sge main_v1 main_v3
  let main_v5 : IVec S4096x4x11 32 := broadcastInDim S4096x4x11 ![0, 1, 2] bcast_S1x1x11_S4096x4x11_0_1_2 main_v2
  let main_v6 : IVec S4096x4x11 1 := cmpi .slt main_v1 main_v5
  let main_v7 : IVec S4096x4x11 1 := andi main_v4 main_v6
  let main_v8 : FVec F S4096x4x146 .f32 := (extractStridedSlice S4096x4x146 ![0, 0, 11] · slices_S4096x4x157_S4096x4x146_0_0_11) main_arg0
  let main_v9 : FVec F S4096x4x146 .f32 := Host.absf main_v8
  let main_cst : FVec F S_ .f32 := constant S_ .f32 0x7F800000#32
  let main_v10 : FVec F S4096x4x146 .f32 := broadcastInDim S4096x4x146 ![] bcast_S_S4096x4x146 main_cst
  let main_v11 : IVec S4096x4x146 1 := cmpf .olt main_v9 main_v10
  let main_v12 : IVec S4096x4x157 1 := (fun a b => concatenate S4096x4x157 2 [⟨S4096x4x11, a⟩, ⟨S4096x4x146, b⟩] concatenates_S4096x4x11_S4096x4x146_S4096x4x157_d2) main_v7 main_v11
  main_v12
-- ==== Kernel.lean ====
abbrev S4096x4x157 : Shape := ⟨3, ![4096, 4, 157]⟩
abbrev S45x16 : Shape := ⟨2, ![45, 16]⟩
abbrev S1x16 : Shape := ⟨2, ![1, 16]⟩
abbrev S146x16 : Shape := ⟨2, ![146, 16]⟩
abbrev S157x16 : Shape := ⟨2, ![157, 16]⟩
abbrev S2512 : Shape := ⟨1, ![2512]⟩
abbrev S64 : Shape := ⟨1, ![64]⟩
abbrev S16x64 : Shape := ⟨2, ![16, 64]⟩
abbrev S_ : Shape := ⟨0, ![]⟩
abbrev S2512x1 : Shape := ⟨2, ![2512, 1]⟩
abbrev S2512x2 : Shape := ⟨2, ![2512, 2]⟩
abbrev S157x2512 : Shape := ⟨2, ![157, 2512]⟩
abbrev S1x2512 : Shape := ⟨2, ![1, 2512]⟩
abbrev S11x16 : Shape := ⟨2, ![11, 16]⟩
abbrev S8x16 : Shape := ⟨2, ![8, 16]⟩
abbrev S64x16 : Shape := ⟨2, ![64, 16]⟩
abbrev S64x16x2512 : Shape := ⟨3, ![64, 16, 2512]⟩
abbrev S64x1x1 : Shape := ⟨3, ![64, 1, 1]⟩
abbrev S64x16x1 : Shape := ⟨3, ![64, 16, 1]⟩
abbrev S64x2512 : Shape := ⟨2, ![64, 2512]⟩
abbrev S2x2512 : Shape := ⟨2, ![2, 2512]⟩
abbrev S224x2512 : Shape := ⟨2, ![224, 2512]⟩
abbrev S224x157x16 : Shape := ⟨3, ![224, 157, 16]⟩
abbrev S16x224x157 : Shape := ⟨3, ![16, 224, 157]⟩
abbrev S512x4x157 : Shape := ⟨3, ![512, 4, 157]⟩
abbrev S2048x157x16 : Shape := ⟨3, ![2048, 157, 16]⟩
abbrev S64x4x157 : Shape := ⟨3, ![64, 4, 157]⟩
abbrev S256x157x16 : Shape := ⟨3, ![256, 157, 16]⟩
abbrev S256x157 : Shape := ⟨2, ![256, 157]⟩
abbrev S256x11 : Shape := ⟨2, ![256, 11]⟩
abbrev S256x5 : Shape := ⟨2, ![256, 5]⟩
abbrev S256x16 : Shape := ⟨2, ![256, 16]⟩
abbrev S256x64 : Shape := ⟨2, ![256, 64]⟩
abbrev S256x1 : Shape := ⟨2, ![256, 1]⟩
abbrev S256x2 : Shape := ⟨2, ![256, 2]⟩
abbrev S256x224 : Shape := ⟨2, ![256, 224]⟩
abbrev S1x224x157 : Shape := ⟨3, ![1, 224, 157]⟩
abbrev S224x157 : Shape := ⟨2, ![224, 157]⟩
abbrev S256x1x157 : Shape := ⟨3, ![256, 1, 157]⟩
abbrev S256x16x157 : Shape := ⟨3, ![256, 16, 157]⟩
abbrev S512x4x157x16 : Shape := ⟨4, ![512, 4, 157, 16]⟩
abbrev S4096x4x157x16 : Shape := ⟨4, ![4096, 4, 157, 16]⟩

abbrev nBuf : Space → Nat
  | .hbm => 127
  | .vmem => 48
  | .smem => 0
  | _ => 0

abbrev bufTy : (tb : Table) → Fin (tcTables nBuf tb) → BufTy
  | .hbm, ⟨0, _⟩ => ⟨S4096x4x157, .f32⟩
  | .hbm, ⟨1, _⟩ => ⟨S45x16, .f32⟩
  | .hbm, ⟨2, _⟩ => ⟨S1x16, .f32⟩
  | .hbm, ⟨3, _⟩ => ⟨S146x16, .f32⟩
  | .hbm, ⟨4, _⟩ => ⟨S146x16, .f32⟩
  | .hbm, ⟨5, _⟩ => ⟨S157x16, .f32⟩
  | .hbm, ⟨6, _⟩ => ⟨S2512, .i1⟩
  | .hbm, ⟨7, _⟩ => ⟨S2512, .i32⟩
  | .hbm, ⟨8, _⟩ => ⟨S2512, .i32⟩
  | .hbm, ⟨9, _⟩ => ⟨S2512, .i32⟩
  | .hbm, ⟨10, _⟩ => ⟨S2512, .i32⟩
  | .hbm, ⟨11, _⟩ => ⟨S64, .i32⟩
  | .hbm, ⟨12, _⟩ => ⟨S16x64, .f32⟩
  | .hbm, ⟨13, _⟩ => ⟨S_, .i32⟩
  | .hbm, ⟨14, _⟩ => ⟨S2512, .i32⟩
  | .hbm, ⟨15, _⟩ => ⟨S2512, .i1⟩
  | .hbm, ⟨16, _⟩ => ⟨S_, .i32⟩
  | .hbm, ⟨17, _⟩ => ⟨S2512, .i32⟩
  | .hbm, ⟨18, _⟩ => ⟨S2512, .i32⟩
  | .hbm, ⟨19, _⟩ => ⟨S2512, .i32⟩
  | .hbm, ⟨20, _⟩ => ⟨S_, .i32⟩
  | .hbm, ⟨21, _⟩ => ⟨S2512, .i32⟩
  | .hbm, ⟨22, _⟩ => ⟨S2512, .i1⟩
  | .hbm, ⟨23, _⟩ => ⟨S_, .i32⟩
  | .hbm, ⟨24, _⟩ => ⟨S2512, .i32⟩
  | .hbm, ⟨25, _⟩ => ⟨S2512, .i32⟩
  | .hbm, ⟨26, _⟩ => ⟨S2512, .i32⟩
  | .hbm, ⟨27, _⟩ => ⟨S2512x1, .i32⟩
  | .hbm, ⟨28, _⟩ => ⟨S2512x1, .i32⟩
  | .hbm, ⟨29, _⟩ => ⟨S2512x2, .i32⟩
  | .hbm, ⟨30, _⟩ => ⟨S2512, .f32⟩
  | .hbm, ⟨31, _⟩ => ⟨S_, .f32⟩
  | .hbm, ⟨32, _⟩ => ⟨S_, .f32⟩
  | .hbm, ⟨33, _⟩ => ⟨S2512, .f32⟩
  | .hbm, ⟨34, _⟩ => ⟨S2512, .f32⟩
  | .hbm, ⟨35, _⟩ => ⟨S2512, .f32⟩
  | .hbm, ⟨36, _⟩ => ⟨S_, .i32⟩
  | .hbm, ⟨37, _⟩ => ⟨S2512, .i32⟩
  | .hbm, ⟨38, _⟩ => ⟨S2512, .i1⟩
  | .hbm, ⟨39, _⟩ => ⟨S_, .i32⟩
  | .hbm, ⟨40, _⟩ => ⟨S2512, .i32⟩
  | .hbm, ⟨41, _⟩ => ⟨S2512, .i32⟩
  | .hbm, ⟨42, _⟩ => ⟨S2512, .i32⟩
  | .hbm, ⟨43, _⟩ => ⟨S_, .i32⟩
  | .hbm, ⟨44, _⟩ => ⟨S2512, .i32⟩
  | .hbm, ⟨45, _⟩ => ⟨S2512, .i1⟩
  | .hbm, ⟨46, _⟩ => ⟨S_, .i32⟩
  | .hbm, ⟨47, _⟩ => ⟨S2512, .i32⟩
  | .hbm, ⟨48, _⟩ => ⟨S2512, .i32⟩
  | .hbm, ⟨49, _⟩ => ⟨S2512, .i32⟩
  | .hbm, ⟨50, _⟩ => ⟨S2512x1, .i32⟩
  | .hbm, ⟨51, _⟩ => ⟨S2512x1, .i32⟩
  | .hbm, ⟨52, _⟩ => ⟨S2512x2, .i32⟩
  | .hbm, ⟨53, _⟩ => ⟨S2512, .f32⟩
  | .hbm, ⟨54, _⟩ => ⟨S_, .f32⟩
  | .hbm, ⟨55, _⟩ => ⟨S_, .f32⟩
  | .hbm, ⟨56, _⟩ => ⟨S2512, .f32⟩
  | .hbm, ⟨57, _⟩ => ⟨S2512, .f32⟩
  | .hbm, ⟨58, _⟩ => ⟨S2512, .f32⟩
  | .hbm, ⟨59, _⟩ => ⟨S157x2512, .i32⟩
  | .hbm, ⟨60, _⟩ => ⟨S1x2512, .i32⟩
  | .hbm, ⟨61, _⟩ => ⟨S157x2512, .i32⟩
  | .hbm, ⟨62, _⟩ => ⟨S157x2512, .i1⟩
  | .hbm, ⟨63, _⟩ => ⟨S_, .f32⟩
  | .hbm, ⟨64, _⟩ => ⟨S_, .f32⟩
  | .hbm, ⟨65, _⟩ => ⟨S157x2512, .f32⟩
  | .hbm, ⟨66, _⟩ => ⟨S157x2512, .f32⟩
  | .hbm, ⟨67, _⟩ => ⟨S157x2512, .f32⟩
  | .hbm, ⟨68, _⟩ => ⟨S1x2512, .f32⟩
  | .hbm, ⟨69, _⟩ => ⟨S157x2512, .f32⟩
  | .hbm, ⟨70, _⟩ => ⟨S157x2512, .f32⟩
  | .hbm, ⟨71, _⟩ => ⟨S157x2512, .f32⟩
  | .hbm, ⟨72, _⟩ => ⟨S11x16, .f32⟩
  | .hbm, ⟨73, _⟩ => ⟨S_, .f32⟩
  | .hbm, ⟨74, _⟩ => ⟨S8x16, .f32⟩
  | .hbm, ⟨75, _⟩ => ⟨S64x16, .f32⟩
  | .hbm, ⟨76, _⟩ => ⟨S64x16x2512, .i32⟩
  | .hbm, ⟨77, _⟩ => ⟨S64x16x2512, .i32⟩
  | .hbm, ⟨78, _⟩ => ⟨S_, .i32⟩
  | .hbm, ⟨79, _⟩ => ⟨S64x16x2512, .i32⟩
  | .hbm, ⟨80, _⟩ => ⟨S64x16x2512, .i32⟩
  | .hbm, ⟨81, _⟩ => ⟨S64x1x1, .i32⟩
  | .hbm, ⟨82, _⟩ => ⟨S64x16x2512, .i32⟩
  | .hbm, ⟨83, _⟩ => ⟨S64x16x2512, .i32⟩
  | .hbm, ⟨84, _⟩ => ⟨S64x16x2512, .i1⟩
  | .hbm, ⟨85, _⟩ => ⟨S_, .f32⟩
  | .hbm, ⟨86, _⟩ => ⟨S_, .f32⟩
  | .hbm, ⟨87, _⟩ => ⟨S64x16x2512, .f32⟩
  | .hbm, ⟨88, _⟩ => ⟨S64x16x2512, .f32⟩
  | .hbm, ⟨89, _⟩ => ⟨S64x16x2512, .f32⟩
  | .hbm, ⟨90, _⟩ => ⟨S64x16x1, .f32⟩
  | .hbm, ⟨91, _⟩ => ⟨S64x16x2512, .f32⟩
  | .hbm, ⟨92, _⟩ => ⟨S64x16x2512, .f32⟩
  | .hbm, ⟨93, _⟩ => ⟨S64x16x2512, .f32⟩
  | .hbm, ⟨94, _⟩ => ⟨S_, .f32⟩
  | .hbm, ⟨95, _⟩ => ⟨S64x2512, .f32⟩
  | .hbm, ⟨96, _⟩ => ⟨S1x2512, .f32⟩
  | .hbm, ⟨97, _⟩ => ⟨S_, .f32⟩
  | .hbm, ⟨98, _⟩ => ⟨S2x2512, .f32⟩
  | .hbm, ⟨99, _⟩ => ⟨S224x2512, .f32⟩
  | .hbm, ⟨100, _⟩ => ⟨S224x157x16, .f32⟩
  | .hbm, ⟨101, _⟩ => ⟨S16x224x157, .f32⟩
  | .hbm, ⟨102, _⟩ => ⟨S512x4x157, .f32⟩
  | .hbm, ⟨103, _⟩ => ⟨S2048x157x16, .f32⟩
  | .hbm, ⟨104, _⟩ => ⟨S512x4x157x16, .f32⟩
  | .hbm, ⟨105, _⟩ => ⟨S512x4x157, .f32⟩
  | .hbm, ⟨106, _⟩ => ⟨S2048x157x16, .f32⟩
  | .hbm, ⟨107, _⟩ => ⟨S512x4x157x16, .f32⟩
  | .hbm, ⟨108, _⟩ => ⟨S512x4x157, .f32⟩
  | .hbm, ⟨109, _⟩ => ⟨S2048x157x16, .f32⟩
  | .hbm, ⟨110, _⟩ => ⟨S512x4x157x16, .f32⟩
  | .hbm, ⟨111, _⟩ => ⟨S512x4x157, .f32⟩
  | .hbm, ⟨112, _⟩ => ⟨S2048x157x16, .f32⟩
  | .hbm, ⟨113, _⟩ => ⟨S512x4x157x16, .f32⟩
  | .hbm, ⟨114, _⟩ => ⟨S512x4x157, .f32⟩
  | .hbm, ⟨115, _⟩ => ⟨S2048x157x16, .f32⟩
  | .hbm, ⟨116, _⟩ => ⟨S512x4x157x16, .f32⟩
  | .hbm, ⟨117, _⟩ => ⟨S512x4x157, .f32⟩
  | .hbm, ⟨118, _⟩ => ⟨S2048x157x16, .f32⟩
  | .hbm, ⟨119, _⟩ => ⟨S512x4x157x16, .f32⟩
  | .hbm, ⟨120, _⟩ => ⟨S512x4x157, .f32⟩
  | .hbm, ⟨121, _⟩ => ⟨S2048x157x16, .f32⟩
  | .hbm, ⟨122, _⟩ => ⟨S512x4x157x16, .f32⟩
  | .hbm, ⟨123, _⟩ => ⟨S512x4x157, .f32⟩
  | .hbm, ⟨124, _⟩ => ⟨S2048x157x16, .f32⟩
  | .hbm, ⟨125, _⟩ => ⟨S512x4x157x16, .f32⟩
  | .hbm, ⟨126, _⟩ => ⟨S4096x4x157x16, .f32⟩
  | .local _ .vmem, ⟨0, _⟩ => ⟨S64x4x157, .f32⟩
  | .local _ .vmem, ⟨1, _⟩ => ⟨S64x4x157, .f32⟩
  | .local _ .vmem, ⟨2, _⟩ => ⟨S16x64, .f32⟩
  | .local _ .vmem, ⟨3, _⟩ => ⟨S16x224x157, .f32⟩
  | .local _ .vmem, ⟨4, _⟩ => ⟨S256x157x16, .f32⟩
  | .local _ .vmem, ⟨5, _⟩ => ⟨S256x157x16, .f32⟩
  | .local _ .vmem, ⟨6, _⟩ => ⟨S64x4x157, .f32⟩
  | .local _ .vmem, ⟨7, _⟩ => ⟨S64x4x157, .f32⟩
  | .local _ .vmem, ⟨8, _⟩ => ⟨S16x64, .f32⟩
  | .local _ .vmem, ⟨9, _⟩ => ⟨S16x224x157, .f32⟩
  | .local _ .vmem, ⟨10, _⟩ => ⟨S256x157x16, .f32⟩
  | .local _ .vmem, ⟨11, _⟩ => ⟨S256x157x16, .f32⟩
  | .local _ .vmem, ⟨12, _⟩ => ⟨S64x4x157, .f32⟩
  | .local _ .vmem, ⟨13, _⟩ => ⟨S64x4x157, .f32⟩
  | .local _ .vmem, ⟨14, _⟩ => ⟨S16x64, .f32⟩
  | .local _ .vmem, ⟨15, _⟩ => ⟨S16x224x157, .f32⟩
  | .local _ .vmem, ⟨16, _⟩ => ⟨S256x157x16, .f32⟩
  | .local _ .vmem, ⟨17, _⟩ => ⟨S256x157x16, .f32⟩
  | .local _ .vmem, ⟨18, _⟩ => ⟨S64x4x157, .f32⟩
  | .local _ .vmem, ⟨19, _⟩ => ⟨S64x4x157, .f32⟩
  | .local _ .vmem, ⟨20, _⟩ => ⟨S16x64, .f32⟩
  | .local _ .vmem, ⟨21, _⟩ => ⟨S16x224x157, .f32⟩
  | .local _ .vmem, ⟨22, _⟩ => ⟨S256x157x16, .f32⟩
  | .local _ .vmem, ⟨23, _⟩ => ⟨S256x157x16, .f32⟩
  | .local _ .vmem, ⟨24, _⟩ => ⟨S64x4x157, .f32⟩
  | .local _ .vmem, ⟨25, _⟩ => ⟨S64x4x157, .f32⟩
  | .local _ .vmem, ⟨26, _⟩ => ⟨S16x64, .f32⟩
  | .local _ .vmem, ⟨27, _⟩ => ⟨S16x224x157, .f32⟩
  | .local _ .vmem, ⟨28, _⟩ => ⟨S256x157x16, .f32⟩
  | .local _ .vmem, ⟨29, _⟩ => ⟨S256x157x16, .f32⟩
  | .local _ .vmem, ⟨30, _⟩ => ⟨S64x4x157, .f32⟩
  | .local _ .vmem, ⟨31, _⟩ => ⟨S64x4x157, .f32⟩
  | .local _ .vmem, ⟨32, _⟩ => ⟨S16x64, .f32⟩
  | .local _ .vmem, ⟨33, _⟩ => ⟨S16x224x157, .f32⟩
  | .local _ .vmem, ⟨34, _⟩ => ⟨S256x157x16, .f32⟩
  | .local _ .vmem, ⟨35, _⟩ => ⟨S256x157x16, .f32⟩
  | .local _ .vmem, ⟨36, _⟩ => ⟨S64x4x157, .f32⟩
  | .local _ .vmem, ⟨37, _⟩ => ⟨S64x4x157, .f32⟩
  | .local _ .vmem, ⟨38, _⟩ => ⟨S16x64, .f32⟩
  | .local _ .vmem, ⟨39, _⟩ => ⟨S16x224x157, .f32⟩
  | .local _ .vmem, ⟨40, _⟩ => ⟨S256x157x16, .f32⟩
  | .local _ .vmem, ⟨41, _⟩ => ⟨S256x157x16, .f32⟩
  | .local _ .vmem, ⟨42, _⟩ => ⟨S64x4x157, .f32⟩
  | .local _ .vmem, ⟨43, _⟩ => ⟨S64x4x157, .f32⟩
  | .local _ .vmem, ⟨44, _⟩ => ⟨S16x64, .f32⟩
  | .local _ .vmem, ⟨45, _⟩ => ⟨S16x224x157, .f32⟩
  | .local _ .vmem, ⟨46, _⟩ => ⟨S256x157x16, .f32⟩
  | .local _ .vmem, ⟨47, _⟩ => ⟨S256x157x16, .f32⟩
  | _, _ => ⟨S4096x4x157, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_cst : Ref sig .tc := ⟨.hbm, 12, rfl⟩
abbrev main_c_5 : Ref sig .tc := ⟨.hbm, 13, rfl⟩
abbrev main_v0 : Ref sig .tc := ⟨.hbm, 14, rfl⟩
abbrev main_v1 : Ref sig .tc := ⟨.hbm, 15, rfl⟩
abbrev main_c_6 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_7 : Ref sig .tc := ⟨.hbm, 20, rfl⟩
abbrev main_v5 : Ref sig .tc := ⟨.hbm, 21, rfl⟩
abbrev main_v6 : Ref sig .tc := ⟨.hbm, 22, rfl⟩
abbrev main_c_8 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_9 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_c_10 : Ref sig .tc := ⟨.hbm, 36, rfl⟩
abbrev main_v16 : Ref sig .tc := ⟨.hbm, 37, rfl⟩
abbrev main_v17 : Ref sig .tc := ⟨.hbm, 38, rfl⟩
abbrev main_c_11 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_12 : Ref sig .tc := ⟨.hbm, 43, rfl⟩
abbrev main_v21 : Ref sig .tc := ⟨.hbm, 44, rfl⟩
abbrev main_v22 : Ref sig .tc := ⟨.hbm, 45, rfl⟩
abbrev main_c_13 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_14 : Ref sig .tc := ⟨.hbm, 54, rfl⟩
abbrev main_call1_v0 : Ref sig .tc := ⟨.hbm, 55, rfl⟩
abbrev main_call1_v1 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_15 : Ref sig .tc := ⟨.hbm, 63, rfl⟩
abbrev main_cst_16 : Ref sig .tc := ⟨.hbm, 64, rfl⟩
abbrev main_call2_v0 : Ref sig .tc := ⟨.hbm, 65, rfl⟩
abbrev main_call2_v1 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_17 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_18 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_19 : Ref sig .tc := ⟨.hbm, 85, rfl⟩
abbrev main_cst_20 : Ref sig .tc := ⟨.hbm, 86, rfl⟩
abbrev main_call3_v0 : Ref sig .tc := ⟨.hbm, 87, rfl⟩
abbrev main_call3_v1 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_21 : Ref sig .tc := ⟨.hbm, 94, rfl⟩
abbrev main_v57 : Ref sig .tc := ⟨.hbm, 95, rfl⟩
abbrev main_v58 : Ref sig .tc := ⟨.hbm, 96, rfl⟩
abbrev main_cst_22 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x4x157 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x224x157 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x157x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x4x157 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x224x157 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x157x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S64x4x157 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x224x157 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x157x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S64x4x157 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16x224x157 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x157x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S64x4x157 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S16x224x157 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x157x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S64x4x157 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S16x224x157 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S256x157x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S64x4x157 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S16x224x157 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S256x157x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S64x4x157 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S16x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S16x224x157 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S256x157x16 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]
-- ==== ReferenceIdeal.lean ====
abbrev S4096x4x157 : Shape := ⟨3, ![4096, 4, 157]⟩
abbrev S45x16 : Shape := ⟨2, ![45, 16]⟩
abbrev S1x16 : Shape := ⟨2, ![1, 16]⟩
abbrev S146x16 : Shape := ⟨2, ![146, 16]⟩
abbrev S157x16 : Shape := ⟨2, ![157, 16]⟩
abbrev S16384x157 : Shape := ⟨2, ![16384, 157]⟩
abbrev S16384x1 : Shape := ⟨2, ![16384, 1]⟩
abbrev S16384 : Shape := ⟨1, ![16384]⟩
abbrev S_ : Shape := ⟨0, ![]⟩
abbrev S16384x16 : Shape := ⟨2, ![16384, 16]⟩
abbrev S16 : Shape := ⟨1, ![16]⟩
abbrev S16384x1x16 : Shape := ⟨3, ![16384, 1, 16]⟩
abbrev S16384x11x16 : Shape := ⟨3, ![16384, 11, 16]⟩
abbrev S16384x146 : Shape := ⟨2, ![16384, 146]⟩
abbrev S16384x146x1 : Shape := ⟨3, ![16384, 146, 1]⟩
abbrev S1x146x16 : Shape := ⟨3, ![1, 146, 16]⟩
abbrev S16384x146x16 : Shape := ⟨3, ![16384, 146, 16]⟩
abbrev S1x1x16 : Shape := ⟨3, ![1, 1, 16]⟩
abbrev S16384x157x16 : Shape := ⟨3, ![16384, 157, 16]⟩
abbrev S16384x16x157 : Shape := ⟨3, ![16384, 16, 157]⟩
abbrev S16384x2512 : Shape := ⟨2, ![16384, 2512]⟩
abbrev S2512 : Shape := ⟨1, ![2512]⟩
abbrev S1x2512 : Shape := ⟨2, ![1, 2512]⟩
abbrev S4096x4x157x16 : Shape := ⟨4, ![4096, 4, 157, 16]⟩

abbrev nBuf : Space → Nat
  | .hbm => 531
  | .vmem => 0
  | .smem => 0
  | _ => 0

abbrev hbmTy0_0 (i : Nat) : BufTy := match i % 128 with
  | 0 => ⟨S4096x4x157, .f32⟩
  | 1 => ⟨S45x16, .f32⟩
  | 2 => ⟨S1x16, .f32⟩
  | 3 => ⟨S146x16, .f32⟩
  | 4 => ⟨S146x16, .f32⟩
  | 5 => ⟨S157x16, .f32⟩
  | 6 => ⟨S16384x157, .f32⟩
  | 7 => ⟨S16384x157, .i1⟩
  | 8 => ⟨S16384x1, .f32⟩
  | 9 => ⟨S16384, .f32⟩
  | 10 => ⟨S16384x1, .i1⟩
  | 11 => ⟨S16384, .i1⟩
  | 12 => ⟨S16384, .i1⟩
  | 13 => ⟨S_, .f32⟩
  | 14 => ⟨S16384, .f32⟩
  | 15 => ⟨S16384, .f32⟩
  | 16 => ⟨S_, .f32⟩
  | 17 => ⟨S16384, .f32⟩
  | 18 => ⟨S16384, .i1⟩
  | 19 => ⟨S_, .f32⟩
  | 20 => ⟨S16384, .f32⟩
  | 21 => ⟨S16384, .f32⟩
  | 22 => ⟨S_, .f32⟩
  | 23 => ⟨S16384, .f32⟩
  | 24 => ⟨S16384, .i1⟩
  | 25 => ⟨S_, .f32⟩
  | 26 => ⟨S16384, .f32⟩
  | 27 => ⟨S16384, .f32⟩
  | 28 => ⟨S16384, .i32⟩
  | 29 => ⟨S_, .i32⟩
  | 30 => ⟨S_, .i32⟩
  | 31 => ⟨S16384, .i32⟩
  | 32 => ⟨S16384, .i32⟩
  | 33 => ⟨S_, .i32⟩
  | 34 => ⟨S16384, .i32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x16, .f32⟩
  | 45 => ⟨S16384x1, .i1⟩
  | 46 => ⟨S16, .f32⟩
  | 47 => ⟨S16384x16, .i1⟩
  | 48 => ⟨S16384x16, .f32⟩
  | 49 => ⟨S16384x16, .f32⟩
  | 50 => ⟨S16384x1, .f32⟩
  | 51 => ⟨S16384, .f32⟩
  | 52 => ⟨S16384x1, .i1⟩
  | 53 => ⟨S16384, .i1⟩
  | 54 => ⟨S16384, .i1⟩
  | 55 => ⟨S_, .f32⟩
  | 56 => ⟨S16384, .f32⟩
  | 57 => ⟨S16384, .f32⟩
  | 58 => ⟨S_, .f32⟩
  | 59 => ⟨S16384, .f32⟩
  | 60 => ⟨S16384, .i1⟩
  | 61 => ⟨S_, .f32⟩
  | 62 => ⟨S16384, .f32⟩
  | 63 => ⟨S16384, .f32⟩
  | 64 => ⟨S_, .f32⟩
  | 65 => ⟨S16384, .f32⟩
  | 66 => ⟨S16384, .i1⟩
  | 67 => ⟨S_, .f32⟩
  | 68 => ⟨S16384, .f32⟩
  | 69 => ⟨S16384, .f32⟩
  | 70 => ⟨S16384, .i32⟩
  | 71 => ⟨S_, .i32⟩
  | 72 => ⟨S_, .i32⟩
  | 73 => ⟨S16384, .i32⟩
  | 74 => ⟨S16384, .i32⟩
  | 75 => ⟨S_, .i32⟩
  | 76 => ⟨S16384, .i32⟩
  | 77 => ⟨S16384, .i32⟩
  | 78 => ⟨S_, .i32⟩
  | 79 => ⟨S16384, .i32⟩
  | 80 => ⟨S16384, .i1⟩
  | 81 => ⟨S_, .i32⟩
  | 82 => ⟨S16384, .i32⟩
  | 83 => ⟨S16384, .i32⟩
  | 84 => ⟨S16384, .i32⟩
  | 85 => ⟨S16384x1, .i32⟩
  | 86 => ⟨S16384x16, .f32⟩
  | 87 => ⟨S16384x1, .i1⟩
  | 88 => ⟨S16, .f32⟩
  | 89 => ⟨S16384x16, .i1⟩
  | 90 => ⟨S16384x16, .f32⟩
  | 91 => ⟨S16384x16, .f32⟩
  | 92 => ⟨S16384x1, .f32⟩
  | 93 => ⟨S16384, .f32⟩
  | 94 => ⟨S16384x1, .i1⟩
  | 95 => ⟨S16384, .i1⟩
  | 96 => ⟨S16384, .i1⟩
  | 97 => ⟨S_, .f32⟩
  | 98 => ⟨S16384, .f32⟩
  | 99 => ⟨S16384, .f32⟩
  | 100 => ⟨S_, .f32⟩
  | 101 => ⟨S16384, .f32⟩
  | 102 => ⟨S16384, .i1⟩
  | 103 => ⟨S_, .f32⟩
  | 104 => ⟨S16384, .f32⟩
  | 105 => ⟨S16384, .f32⟩
  | 106 => ⟨S_, .f32⟩
  | 107 => ⟨S16384, .f32⟩
  | 108 => ⟨S16384, .i1⟩
  | 109 => ⟨S_, .f32⟩
  | 110 => ⟨S16384, .f32⟩
  | 111 => ⟨S16384, .f32⟩
  | 112 => ⟨S16384, .i32⟩
  | 113 => ⟨S_, .i32⟩
  | 114 => ⟨S_, .i32⟩
  | 115 => ⟨S16384, .i32⟩
  | 116 => ⟨S16384, .i32⟩
  | 117 => ⟨S_, .i32⟩
  | 118 => ⟨S16384, .i32⟩
  | 119 => ⟨S16384, .i32⟩
  | 120 => ⟨S_, .i32⟩
  | 121 => ⟨S16384, .i32⟩
  | 122 => ⟨S16384, .i1⟩
  | 123 => ⟨S_, .i32⟩
  | 124 => ⟨S16384, .i32⟩
  | 125 => ⟨S16384, .i32⟩
  | 126 => ⟨S16384, .i32⟩
  | 127 => ⟨S16384x1, .i32⟩
  | _ => ⟨S4096x4x157, .f32⟩

abbrev hbmTy0_1 (i : Nat) : BufTy := match i % 128 with
  | 0 => ⟨S16384x16, .f32⟩
  | 1 => ⟨S16384x1, .i1⟩
  | 2 => ⟨S16, .f32⟩
  | 3 => ⟨S16384x16, .i1⟩
  | 4 => ⟨S16384x16, .f32⟩
  | 5 => ⟨S16384x16, .f32⟩
  | 6 => ⟨S16384x1, .f32⟩
  | 7 => ⟨S16384, .f32⟩
  | 8 => ⟨S16384x1, .i1⟩
  | 9 => ⟨S16384, .i1⟩
  | 10 => ⟨S16384, .i1⟩
  | 11 => ⟨S_, .f32⟩
  | 12 => ⟨S16384, .f32⟩
  | 13 => ⟨S16384, .f32⟩
  | 14 => ⟨S_, .f32⟩
  | 15 => ⟨S16384, .f32⟩
  | 16 => ⟨S16384, .i1⟩
  | 17 => ⟨S_, .f32⟩
  | 18 => ⟨S16384, .f32⟩
  | 19 => ⟨S16384, .f32⟩
  | 20 => ⟨S_, .f32⟩
  | 21 => ⟨S16384, .f32⟩
  | 22 => ⟨S16384, .i1⟩
  | 23 => ⟨S_, .f32⟩
  | 24 => ⟨S16384, .f32⟩
  | 25 => ⟨S16384, .f32⟩
  | 26 => ⟨S16384, .i32⟩
  | 27 => ⟨S_, .i32⟩
  | 28 => ⟨S_, .i32⟩
  | 29 => ⟨S16384, .i32⟩
  | 30 => ⟨S16384, .i32⟩
  | 31 => ⟨S_, .i32⟩
  | 32 => ⟨S16384, .i32⟩
  | 33 => ⟨S16384, .i32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S16384x16, .f32⟩
  | 43 => ⟨S16384x1, .i1⟩
  | 44 => ⟨S16, .f32⟩
  | 45 => ⟨S16384x16, .i1⟩
  | 46 => ⟨S16384x16, .f32⟩
  | 47 => ⟨S16384x16, .f32⟩
  | 48 => ⟨S16384x1, .f32⟩
  | 49 => ⟨S16384, .f32⟩
  | 50 => ⟨S16384x1, .i1⟩
  | 51 => ⟨S16384, .i1⟩
  | 52 => ⟨S16384, .i1⟩
  | 53 => ⟨S_, .f32⟩
  | 54 => ⟨S16384, .f32⟩
  | 55 => ⟨S16384, .f32⟩
  | 56 => ⟨S_, .f32⟩
  | 57 => ⟨S16384, .f32⟩
  | 58 => ⟨S16384, .i1⟩
  | 59 => ⟨S_, .f32⟩
  | 60 => ⟨S16384, .f32⟩
  | 61 => ⟨S16384, .f32⟩
  | 62 => ⟨S_, .f32⟩
  | 63 => ⟨S16384, .f32⟩
  | 64 => ⟨S16384, .i1⟩
  | 65 => ⟨S_, .f32⟩
  | 66 => ⟨S16384, .f32⟩
  | 67 => ⟨S16384, .f32⟩
  | 68 => ⟨S16384, .i32⟩
  | 69 => ⟨S_, .i32⟩
  | 70 => ⟨S_, .i32⟩
  | 71 => ⟨S16384, .i32⟩
  | 72 => ⟨S16384, .i32⟩
  | 73 => ⟨S_, .i32⟩
  | 74 => ⟨S16384, .i32⟩
  | 75 => ⟨S16384, .i32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S16384, .i32⟩
  | 83 => ⟨S16384x1, .i32⟩
  | 84 => ⟨S16384x16, .f32⟩
  | 85 => ⟨S16384x1, .i1⟩
  | 86 => ⟨S16, .f32⟩
  | 87 => ⟨S16384x16, .i1⟩
  | 88 => ⟨S16384x16, .f32⟩
  | 89 => ⟨S16384x16, .f32⟩
  | 90 => ⟨S16384x1, .f32⟩
  | 91 => ⟨S16384, .f32⟩
  | 92 => ⟨S16384x1, .i1⟩
  | 93 => ⟨S16384, .i1⟩
  | 94 => ⟨S16384, .i1⟩
  | 95 => ⟨S_, .f32⟩
  | 96 => ⟨S16384, .f32⟩
  | 97 => ⟨S16384, .f32⟩
  | 98 => ⟨S_, .f32⟩
  | 99 => ⟨S16384, .f32⟩
  | 100 => ⟨S16384, .i1⟩
  | 101 => ⟨S_, .f32⟩
  | 102 => ⟨S16384, .f32⟩
  | 103 => ⟨S16384, .f32⟩
  | 104 => ⟨S_, .f32⟩
  | 105 => ⟨S16384, .f32⟩
  | 106 => ⟨S16384, .i1⟩
  | 107 => ⟨S_, .f32⟩
  | 108 => ⟨S16384, .f32⟩
  | 109 => ⟨S16384, .f32⟩
  | 110 => ⟨S16384, .i32⟩
  | 111 => ⟨S_, .i32⟩
  | 112 => ⟨S_, .i32⟩
  | 113 => ⟨S16384, .i32⟩
  | 114 => ⟨S16384, .i32⟩
  | 115 => ⟨S_, .i32⟩
  | 116 => ⟨S16384, .i32⟩
  | 117 => ⟨S16384, .i32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S16384x16, .f32⟩
  | 127 => ⟨S16384x1, .i1⟩
  | _ => ⟨S4096x4x157, .f32⟩

abbrev hbmTy0_2 (i : Nat) : BufTy := match i % 128 with
  | 0 => ⟨S16, .f32⟩
  | 1 => ⟨S16384x16, .i1⟩
  | 2 => ⟨S16384x16, .f32⟩
  | 3 => ⟨S16384x16, .f32⟩
  | 4 => ⟨S16384x1, .f32⟩
  | 5 => ⟨S16384, .f32⟩
  | 6 => ⟨S16384x1, .i1⟩
  | 7 => ⟨S16384, .i1⟩
  | 8 => ⟨S16384, .i1⟩
  | 9 => ⟨S_, .f32⟩
  | 10 => ⟨S16384, .f32⟩
  | 11 => ⟨S16384, .f32⟩
  | 12 => ⟨S_, .f32⟩
  | 13 => ⟨S16384, .f32⟩
  | 14 => ⟨S16384, .i1⟩
  | 15 => ⟨S_, .f32⟩
  | 16 => ⟨S16384, .f32⟩
  | 17 => ⟨S16384, .f32⟩
  | 18 => ⟨S_, .f32⟩
  | 19 => ⟨S16384, .f32⟩
  | 20 => ⟨S16384, .i1⟩
  | 21 => ⟨S_, .f32⟩
  | 22 => ⟨S16384, .f32⟩
  | 23 => ⟨S16384, .f32⟩
  | 24 => ⟨S16384, .i32⟩
  | 25 => ⟨S_, .i32⟩
  | 26 => ⟨S_, .i32⟩
  | 27 => ⟨S16384, .i32⟩
  | 28 => ⟨S16384, .i32⟩
  | 29 => ⟨S_, .i32⟩
  | 30 => ⟨S16384, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S16384x16, .f32⟩
  | 41 => ⟨S16384x1, .i1⟩
  | 42 => ⟨S16, .f32⟩
  | 43 => ⟨S16384x16, .i1⟩
  | 44 => ⟨S16384x16, .f32⟩
  | 45 => ⟨S16384x16, .f32⟩
  | 46 => ⟨S16384x1, .f32⟩
  | 47 => ⟨S16384, .f32⟩
  | 48 => ⟨S16384x1, .i1⟩
  | 49 => ⟨S16384, .i1⟩
  | 50 => ⟨S16384, .i1⟩
  | 51 => ⟨S_, .f32⟩
  | 52 => ⟨S16384, .f32⟩
  | 53 => ⟨S16384, .f32⟩
  | 54 => ⟨S_, .f32⟩
  | 55 => ⟨S16384, .f32⟩
  | 56 => ⟨S16384, .i1⟩
  | 57 => ⟨S_, .f32⟩
  | 58 => ⟨S16384, .f32⟩
  | 59 => ⟨S16384, .f32⟩
  | 60 => ⟨S_, .f32⟩
  | 61 => ⟨S16384, .f32⟩
  | 62 => ⟨S16384, .i1⟩
  | 63 => ⟨S_, .f32⟩
  | 64 => ⟨S16384, .f32⟩
  | 65 => ⟨S16384, .f32⟩
  | 66 => ⟨S16384, .i32⟩
  | 67 => ⟨S_, .i32⟩
  | 68 => ⟨S_, .i32⟩
  | 69 => ⟨S16384, .i32⟩
  | 70 => ⟨S16384, .i32⟩
  | 71 => ⟨S_, .i32⟩
  | 72 => ⟨S16384, .i32⟩
  | 73 => ⟨S16384, .i32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S16384x16, .f32⟩
  | 83 => ⟨S16384x1, .i1⟩
  | 84 => ⟨S16, .f32⟩
  | 85 => ⟨S16384x16, .i1⟩
  | 86 => ⟨S16384x16, .f32⟩
  | 87 => ⟨S16384x16, .f32⟩
  | 88 => ⟨S16384x1, .f32⟩
  | 89 => ⟨S16384, .f32⟩
  | 90 => ⟨S16384x1, .i1⟩
  | 91 => ⟨S16384, .i1⟩
  | 92 => ⟨S16384, .i1⟩
  | 93 => ⟨S_, .f32⟩
  | 94 => ⟨S16384, .f32⟩
  | 95 => ⟨S16384, .f32⟩
  | 96 => ⟨S_, .f32⟩
  | 97 => ⟨S16384, .f32⟩
  | 98 => ⟨S16384, .i1⟩
  | 99 => ⟨S_, .f32⟩
  | 100 => ⟨S16384, .f32⟩
  | 101 => ⟨S16384, .f32⟩
  | 102 => ⟨S_, .f32⟩
  | 103 => ⟨S16384, .f32⟩
  | 104 => ⟨S16384, .i1⟩
  | 105 => ⟨S_, .f32⟩
  | 106 => ⟨S16384, .f32⟩
  | 107 => ⟨S16384, .f32⟩
  | 108 => ⟨S16384, .i32⟩
  | 109 => ⟨S_, .i32⟩
  | 110 => ⟨S_, .i32⟩
  | 111 => ⟨S16384, .i32⟩
  | 112 => ⟨S16384, .i32⟩
  | 113 => ⟨S_, .i32⟩
  | 114 => ⟨S16384, .i32⟩
  | 115 => ⟨S16384, .i32⟩
  | 116 => ⟨S_, .i32⟩
  | 117 => ⟨S16384, .i32⟩
  | 118 => ⟨S16384, .i1⟩
  | 119 => ⟨S_, .i32⟩
  | 120 => ⟨S16384, .i32⟩
  | 121 => ⟨S16384, .i32⟩
  | 122 => ⟨S16384, .i32⟩
  | 123 => ⟨S16384x1, .i32⟩
  | 124 => ⟨S16384x16, .f32⟩
  | 125 => ⟨S16384x1, .i1⟩
  | 126 => ⟨S16, .f32⟩
  | 127 => ⟨S16384x16, .i1⟩
  | _ => ⟨S4096x4x157, .f32⟩

abbrev hbmTy0_3 (i : Nat) : BufTy := match i % 128 with
  | 0 => ⟨S16384x16, .f32⟩
  | 1 => ⟨S16384x16, .f32⟩
  | 2 => ⟨S16384x1, .f32⟩
  | 3 => ⟨S16384, .f32⟩
  | 4 => ⟨S16384x1, .i1⟩
  | 5 => ⟨S16384, .i1⟩
  | 6 => ⟨S16384, .i1⟩
  | 7 => ⟨S_, .f32⟩
  | 8 => ⟨S16384, .f32⟩
  | 9 => ⟨S16384, .f32⟩
  | 10 => ⟨S_, .f32⟩
  | 11 => ⟨S16384, .f32⟩
  | 12 => ⟨S16384, .i1⟩
  | 13 => ⟨S_, .f32⟩
  | 14 => ⟨S16384, .f32⟩
  | 15 => ⟨S16384, .f32⟩
  | 16 => ⟨S_, .f32⟩
  | 17 => ⟨S16384, .f32⟩
  | 18 => ⟨S16384, .i1⟩
  | 19 => ⟨S_, .f32⟩
  | 20 => ⟨S16384, .f32⟩
  | 21 => ⟨S16384, .f32⟩
  | 22 => ⟨S16384, .i32⟩
  | 23 => ⟨S_, .i32⟩
  | 24 => ⟨S_, .i32⟩
  | 25 => ⟨S16384, .i32⟩
  | 26 => ⟨S16384, .i32⟩
  | 27 => ⟨S_, .i32⟩
  | 28 => ⟨S16384, .i32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S16384x16, .f32⟩
  | 39 => ⟨S16384x1, .i1⟩
  | 40 => ⟨S16, .f32⟩
  | 41 => ⟨S16384x16, .i1⟩
  | 42 => ⟨S16384x16, .f32⟩
  | 43 => ⟨S16384x16, .f32⟩
  | 44 => ⟨S16384x1, .f32⟩
  | 45 => ⟨S16384, .f32⟩
  | 46 => ⟨S16384x1, .i1⟩
  | 47 => ⟨S16384, .i1⟩
  | 48 => ⟨S16384, .i1⟩
  | 49 => ⟨S_, .f32⟩
  | 50 => ⟨S16384, .f32⟩
  | 51 => ⟨S16384, .f32⟩
  | 52 => ⟨S_, .f32⟩
  | 53 => ⟨S16384, .f32⟩
  | 54 => ⟨S16384, .i1⟩
  | 55 => ⟨S_, .f32⟩
  | 56 => ⟨S16384, .f32⟩
  | 57 => ⟨S16384, .f32⟩
  | 58 => ⟨S_, .f32⟩
  | 59 => ⟨S16384, .f32⟩
  | 60 => ⟨S16384, .i1⟩
  | 61 => ⟨S_, .f32⟩
  | 62 => ⟨S16384, .f32⟩
  | 63 => ⟨S16384, .f32⟩
  | 64 => ⟨S16384, .i32⟩
  | 65 => ⟨S_, .i32⟩
  | 66 => ⟨S_, .i32⟩
  | 67 => ⟨S16384, .i32⟩
  | 68 => ⟨S16384, .i32⟩
  | 69 => ⟨S_, .i32⟩
  | 70 => ⟨S16384, .i32⟩
  | 71 => ⟨S16384, .i32⟩
  | 72 => ⟨S_, .i32⟩
  | 73 => ⟨S16384, .i32⟩
  | 74 => ⟨S16384, .i1⟩
  | 75 => ⟨S_, .i32⟩
  | 76 => ⟨S16384, .i32⟩
  | 77 => ⟨S16384, .i32⟩
  | 78 => ⟨S16384, .i32⟩
  | 79 => ⟨S16384x1, .i32⟩
  | 80 => ⟨S16384x16, .f32⟩
  | 81 => ⟨S16384x1, .i1⟩
  | 82 => ⟨S16, .f32⟩
  | 83 => ⟨S16384x16, .i1⟩
  | 84 => ⟨S16384x16, .f32⟩
  | 85 => ⟨S16384x16, .f32⟩
  | 86 => ⟨S16384x1x16, .f32⟩
  | 87 => ⟨S16384x1x16, .f32⟩
  | 88 => ⟨S16384x1x16, .f32⟩
  | 89 => ⟨S16384x1x16, .f32⟩
  | 90 => ⟨S16384x1x16, .f32⟩
  | 91 => ⟨S16384x1x16, .f32⟩
  | 92 => ⟨S16384x1x16, .f32⟩
  | 93 => ⟨S16384x1x16, .f32⟩
  | 94 => ⟨S16384x1x16, .f32⟩
  | 95 => ⟨S16384x1x16, .f32⟩
  | 96 => ⟨S16384x1x16, .f32⟩
  | 97 => ⟨S16384x11x16, .f32⟩
  | 98 => ⟨S16384x146, .f32⟩
  | 99 => ⟨S16384x146, .i1⟩
  | 100 => ⟨S16384x146, .i1⟩
  | 101 => ⟨S_, .f32⟩
  | 102 => ⟨S16384x146, .f32⟩
  | 103 => ⟨S16384x146, .f32⟩
  | 104 => ⟨S_, .f32⟩
  | 105 => ⟨S16384x146, .f32⟩
  | 106 => ⟨S16384x146, .i1⟩
  | 107 => ⟨S_, .f32⟩
  | 108 => ⟨S16384x146, .f32⟩
  | 109 => ⟨S16384x146, .f32⟩
  | 110 => ⟨S_, .f32⟩
  | 111 => ⟨S16384x146, .f32⟩
  | 112 => ⟨S16384x146, .i1⟩
  | 113 => ⟨S_, .f32⟩
  | 114 => ⟨S16384x146, .f32⟩
  | 115 => ⟨S16384x146, .f32⟩
  | 116 => ⟨S16384x146x1, .f32⟩
  | 117 => ⟨S1x146x16, .f32⟩
  | 118 => ⟨S16384x146x16, .f32⟩
  | 119 => ⟨S16384x146x16, .f32⟩
  | 120 => ⟨S16384x146x16, .f32⟩
  | 121 => ⟨S1x146x16, .f32⟩
  | 122 => ⟨S16384x146x16, .f32⟩
  | 123 => ⟨S16384x146x16, .f32⟩
  | 124 => ⟨S16384x146x1, .i1⟩
  | 125 => ⟨S16, .f32⟩
  | 126 => ⟨S1x1x16, .f32⟩
  | 127 => ⟨S16384x146x16, .i1⟩
  | _ => ⟨S4096x4x157, .f32⟩

abbrev hbmTy0_4 (i : Nat) : BufTy := match i % 128 with
  | 0 => ⟨S16384x146x16, .f32⟩
  | 1 => ⟨S16384x146x16, .f32⟩
  | 2 => ⟨S16384x157x16, .f32⟩
  | 3 => ⟨S16384x16x157, .f32⟩
  | 4 => ⟨S16384x2512, .f32⟩
  | 5 => ⟨S2512, .f32⟩
  | 6 => ⟨S1x2512, .f32⟩
  | 7 => ⟨S16384x2512, .f32⟩
  | 8 => ⟨S16384x2512, .f32⟩
  | 9 => ⟨S_, .f32⟩
  | 10 => ⟨S16384x2512, .f32⟩
  | 11 => ⟨S16384x2512, .f32⟩
  | 12 => ⟨S16384x2512, .f32⟩
  | 13 => ⟨S_, .f32⟩
  | 14 => ⟨S16384x2512, .f32⟩
  | 15 => ⟨S16384x2512, .f32⟩
  | 16 => ⟨S16384x2512, .f32⟩
  | 17 => ⟨S16384x2512, .f32⟩
  | 18 => ⟨S4096x4x157x16, .f32⟩
  | _ => ⟨S4096x4x157, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x4x157, .f32⟩

abbrev bufTy : (tb : Table) → Fin (tcTables nBuf tb) → BufTy
  | .hbm, ⟨i, _⟩ => hbmTy i
  | _, _ => ⟨S4096x4x157, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_cst : Ref sig .tc := ⟨.hbm, 13, rfl⟩
abbrev main_call0_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_cst_1 : Ref sig .tc := ⟨.hbm, 19, rfl⟩
abbrev main_call0_call1_v0 : Ref sig .tc := ⟨.hbm, 20, rfl⟩
abbrev main_call0_v4 : Ref sig .tc := ⟨.hbm, 21, rfl⟩
abbrev main_call0_cst_2 : Ref sig .tc := ⟨.hbm, 22, rfl⟩
abbrev main_call0_v5 : Ref sig .tc := ⟨.hbm, 23, rfl⟩
abbrev main_call0_v6 : Ref sig .tc := ⟨.hbm, 24, rfl⟩
abbrev main_call0_cst_3 : Ref sig .tc := ⟨.hbm, 25, rfl⟩
abbrev main_call0_call2_v0 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_c_0 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call2_v0 : Ref sig .tc := ⟨.hbm, 47, rfl⟩
abbrev main_call2_v1 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_call3_v0 : Ref sig .tc := ⟨.hbm, 54, rfl⟩
abbrev main_call3_cst : Ref sig .tc := ⟨.hbm, 55, rfl⟩
abbrev main_call3_call0_v0 : Ref sig .tc := ⟨.hbm, 56, rfl⟩
abbrev main_call3_v1 : Ref sig .tc := ⟨.hbm, 57, rfl⟩
abbrev main_call3_cst_0 : Ref sig .tc := ⟨.hbm, 58, rfl⟩
abbrev main_call3_v2 : Ref sig .tc := ⟨.hbm, 59, rfl⟩
abbrev main_call3_v3 : Ref sig .tc := ⟨.hbm, 60, rfl⟩
abbrev main_call3_cst_1 : Ref sig .tc := ⟨.hbm, 61, rfl⟩
abbrev main_call3_call1_v0 : Ref sig .tc := ⟨.hbm, 62, rfl⟩
abbrev main_call3_v4 : Ref sig .tc := ⟨.hbm, 63, rfl⟩
abbrev main_call3_cst_2 : Ref sig .tc := ⟨.hbm, 64, rfl⟩
abbrev main_call3_v5 : Ref sig .tc := ⟨.hbm, 65, rfl⟩
abbrev main_call3_v6 : Ref sig .tc := ⟨.hbm, 66, rfl⟩
abbrev main_call3_cst_3 : Ref sig .tc := ⟨.hbm, 67, rfl⟩
abbrev main_call3_call2_v0 : Ref sig .tc := ⟨.hbm, 68, rfl⟩
abbrev main_v25 : Ref sig .tc := ⟨.hbm, 69, rfl⟩
abbrev main_v26 : Ref sig .tc := ⟨.hbm, 70, rfl⟩
abbrev main_c_3 : Ref sig .tc := ⟨.hbm, 71, rfl⟩
abbrev main_call4_v0 : Ref sig .tc := ⟨.hbm, 72, rfl⟩
abbrev main_call4_v1 : Ref sig .tc := ⟨.hbm, 73, rfl⟩
abbrev main_v27 : Ref sig .tc := ⟨.hbm, 74, rfl⟩
abbrev main_c_4 : Ref sig .tc := ⟨.hbm, 75, rfl⟩
abbrev main_v28 : Ref sig .tc := ⟨.hbm, 76, rfl⟩
abbrev main_v29 : Ref sig .tc := ⟨.hbm, 77, rfl⟩
abbrev main_c_5 : Ref sig .tc := ⟨.hbm, 78, rfl⟩
abbrev main_v30 : Ref sig .tc := ⟨.hbm, 79, rfl⟩
abbrev main_v31 : Ref sig .tc := ⟨.hbm, 80, rfl⟩
abbrev main_c_6 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_call5_v0 : Ref sig .tc := ⟨.hbm, 89, rfl⟩
abbrev main_call5_v1 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_call6_v0 : Ref sig .tc := ⟨.hbm, 96, rfl⟩
abbrev main_call6_cst : Ref sig .tc := ⟨.hbm, 97, rfl⟩
abbrev main_call6_call0_v0 : Ref sig .tc := ⟨.hbm, 98, rfl⟩
abbrev main_call6_v1 : Ref sig .tc := ⟨.hbm, 99, rfl⟩
abbrev main_call6_cst_0 : Ref sig .tc := ⟨.hbm, 100, rfl⟩
abbrev main_call6_v2 : Ref sig .tc := ⟨.hbm, 101, rfl⟩
abbrev main_call6_v3 : Ref sig .tc := ⟨.hbm, 102, rfl⟩
abbrev main_call6_cst_1 : Ref sig .tc := ⟨.hbm, 103, rfl⟩
abbrev main_call6_call1_v0 : Ref sig .tc := ⟨.hbm, 104, rfl⟩
abbrev main_call6_v4 : Ref sig .tc := ⟨.hbm, 105, rfl⟩
abbrev main_call6_cst_2 : Ref sig .tc := ⟨.hbm, 106, rfl⟩
abbrev main_call6_v5 : Ref sig .tc := ⟨.hbm, 107, rfl⟩
abbrev main_call6_v6 : Ref sig .tc := ⟨.hbm, 108, rfl⟩
abbrev main_call6_cst_3 : Ref sig .tc := ⟨.hbm, 109, rfl⟩
abbrev main_call6_call2_v0 : Ref sig .tc := ⟨.hbm, 110, rfl⟩
abbrev main_v44 : Ref sig .tc := ⟨.hbm, 111, rfl⟩
abbrev main_v45 : Ref sig .tc := ⟨.hbm, 112, rfl⟩
abbrev main_c_7 : Ref sig .tc := ⟨.hbm, 113, rfl⟩
abbrev main_call7_v0 : Ref sig .tc := ⟨.hbm, 114, rfl⟩
abbrev main_call7_v1 : Ref sig .tc := ⟨.hbm, 115, rfl⟩
abbrev main_v46 : Ref sig .tc := ⟨.hbm, 116, rfl⟩
abbrev main_c_8 : Ref sig .tc := ⟨.hbm, 117, rfl⟩
abbrev main_v47 : Ref sig .tc := ⟨.hbm, 118, rfl⟩
abbrev main_v48 : Ref sig .tc := ⟨.hbm, 119, rfl⟩
abbrev main_c_9 : Ref sig .tc := ⟨.hbm, 120, rfl⟩
abbrev main_v49 : Ref sig .tc := ⟨.hbm, 121, rfl⟩
abbrev main_v50 : Ref sig .tc := ⟨.hbm, 122, rfl⟩
abbrev main_c_10 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_call8_v0 : Ref sig .tc := ⟨.hbm, 131, rfl⟩
abbrev main_call8_v1 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_call9_v0 : Ref sig .tc := ⟨.hbm, 138, rfl⟩
abbrev main_call9_cst : Ref sig .tc := ⟨.hbm, 139, rfl⟩
abbrev main_call9_call0_v0 : Ref sig .tc := ⟨.hbm, 140, rfl⟩
abbrev main_call9_v1 : Ref sig .tc := ⟨.hbm, 141, rfl⟩
abbrev main_call9_cst_0 : Ref sig .tc := ⟨.hbm, 142, rfl⟩
abbrev main_call9_v2 : Ref sig .tc := ⟨.hbm, 143, rfl⟩
abbrev main_call9_v3 : Ref sig .tc := ⟨.hbm, 144, rfl⟩
abbrev main_call9_cst_1 : Ref sig .tc := ⟨.hbm, 145, rfl⟩
abbrev main_call9_call1_v0 : Ref sig .tc := ⟨.hbm, 146, rfl⟩
abbrev main_call9_v4 : Ref sig .tc := ⟨.hbm, 147, rfl⟩
abbrev main_call9_cst_2 : Ref sig .tc := ⟨.hbm, 148, rfl⟩
abbrev main_call9_v5 : Ref sig .tc := ⟨.hbm, 149, rfl⟩
abbrev main_call9_v6 : Ref sig .tc := ⟨.hbm, 150, rfl⟩
abbrev main_call9_cst_3 : Ref sig .tc := ⟨.hbm, 151, rfl⟩
abbrev main_call9_call2_v0 : Ref sig .tc := ⟨.hbm, 152, rfl⟩
abbrev main_v63 : Ref sig .tc := ⟨.hbm, 153, rfl⟩
abbrev main_v64 : Ref sig .tc := ⟨.hbm, 154, rfl⟩
abbrev main_c_11 : Ref sig .tc := ⟨.hbm, 155, rfl⟩
abbrev main_call10_v0 : Ref sig .tc := ⟨.hbm, 156, rfl⟩
abbrev main_call10_v1 : Ref sig .tc := ⟨.hbm, 157, rfl⟩
abbrev main_v65 : Ref sig .tc := ⟨.hbm, 158, rfl⟩
abbrev main_c_12 : Ref sig .tc := ⟨.hbm, 159, rfl⟩
abbrev main_v66 : Ref sig .tc := ⟨.hbm, 160, rfl⟩
abbrev main_v67 : Ref sig .tc := ⟨.hbm, 161, rfl⟩
abbrev main_c_13 : Ref sig .tc := ⟨.hbm, 162, rfl⟩
abbrev main_v68 : Ref sig .tc := ⟨.hbm, 163, rfl⟩
abbrev main_v69 : Ref sig .tc := ⟨.hbm, 164, rfl⟩
abbrev main_c_14 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_call11_v0 : Ref sig .tc := ⟨.hbm, 173, rfl⟩
abbrev main_call11_v1 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_call12_v0 : Ref sig .tc := ⟨.hbm, 180, rfl⟩
abbrev main_call12_cst : Ref sig .tc := ⟨.hbm, 181, rfl⟩
abbrev main_call12_call0_v0 : Ref sig .tc := ⟨.hbm, 182, rfl⟩
abbrev main_call12_v1 : Ref sig .tc := ⟨.hbm, 183, rfl⟩
abbrev main_call12_cst_0 : Ref sig .tc := ⟨.hbm, 184, rfl⟩
abbrev main_call12_v2 : Ref sig .tc := ⟨.hbm, 185, rfl⟩
abbrev main_call12_v3 : Ref sig .tc := ⟨.hbm, 186, rfl⟩
abbrev main_call12_cst_1 : Ref sig .tc := ⟨.hbm, 187, rfl⟩
abbrev main_call12_call1_v0 : Ref sig .tc := ⟨.hbm, 188, rfl⟩
abbrev main_call12_v4 : Ref sig .tc := ⟨.hbm, 189, rfl⟩
abbrev main_call12_cst_2 : Ref sig .tc := ⟨.hbm, 190, rfl⟩
abbrev main_call12_v5 : Ref sig .tc := ⟨.hbm, 191, rfl⟩
abbrev main_call12_v6 : Ref sig .tc := ⟨.hbm, 192, rfl⟩
abbrev main_call12_cst_3 : Ref sig .tc := ⟨.hbm, 193, rfl⟩
abbrev main_call12_call2_v0 : Ref sig .tc := ⟨.hbm, 194, rfl⟩
abbrev main_v82 : Ref sig .tc := ⟨.hbm, 195, rfl⟩
abbrev main_v83 : Ref sig .tc := ⟨.hbm, 196, rfl⟩
abbrev main_c_15 : Ref sig .tc := ⟨.hbm, 197, rfl⟩
abbrev main_call13_v0 : Ref sig .tc := ⟨.hbm, 198, rfl⟩
abbrev main_call13_v1 : Ref sig .tc := ⟨.hbm, 199, rfl⟩
abbrev main_v84 : Ref sig .tc := ⟨.hbm, 200, rfl⟩
abbrev main_c_16 : Ref sig .tc := ⟨.hbm, 201, rfl⟩
abbrev main_v85 : Ref sig .tc := ⟨.hbm, 202, rfl⟩
abbrev main_v86 : Ref sig .tc := ⟨.hbm, 203, rfl⟩
abbrev main_c_17 : Ref sig .tc := ⟨.hbm, 204, rfl⟩
abbrev main_v87 : Ref sig .tc := ⟨.hbm, 205, rfl⟩
abbrev main_v88 : Ref sig .tc := ⟨.hbm, 206, rfl⟩
abbrev main_c_18 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_v92 : Ref sig .tc := ⟨.hbm, 211, rfl⟩
abbrev main_v93 : Ref sig .tc := ⟨.hbm, 212, rfl⟩
abbrev main_v94 : Ref sig .tc := ⟨.hbm, 213, rfl⟩
abbrev main_v95 : Ref sig .tc := ⟨.hbm, 214, rfl⟩
abbrev main_call14_v0 : Ref sig .tc := ⟨.hbm, 215, rfl⟩
abbrev main_call14_v1 : Ref sig .tc := ⟨.hbm, 216, rfl⟩
abbrev main_v96 : Ref sig .tc := ⟨.hbm, 217, rfl⟩
abbrev main_v97 : Ref sig .tc := ⟨.hbm, 218, rfl⟩
abbrev main_v98 : Ref sig .tc := ⟨.hbm, 219, rfl⟩
abbrev main_v99 : Ref sig .tc := ⟨.hbm, 220, rfl⟩
abbrev main_v100 : Ref sig .tc := ⟨.hbm, 221, rfl⟩
abbrev main_call15_v0 : Ref sig .tc := ⟨.hbm, 222, rfl⟩
abbrev main_call15_cst : Ref sig .tc := ⟨.hbm, 223, rfl⟩
abbrev main_call15_call0_v0 : Ref sig .tc := ⟨.hbm, 224, rfl⟩
abbrev main_call15_v1 : Ref sig .tc := ⟨.hbm, 225, rfl⟩
abbrev main_call15_cst_0 : Ref sig .tc := ⟨.hbm, 226, rfl⟩
abbrev main_call15_v2 : Ref sig .tc := ⟨.hbm, 227, rfl⟩
abbrev main_call15_v3 : Ref sig .tc := ⟨.hbm, 228, rfl⟩
abbrev main_call15_cst_1 : Ref sig .tc := ⟨.hbm, 229, rfl⟩
abbrev main_call15_call1_v0 : Ref sig .tc := ⟨.hbm, 230, rfl⟩
abbrev main_call15_v4 : Ref sig .tc := ⟨.hbm, 231, rfl⟩
abbrev main_call15_cst_2 : Ref sig .tc := ⟨.hbm, 232, rfl⟩
abbrev main_call15_v5 : Ref sig .tc := ⟨.hbm, 233, rfl⟩
abbrev main_call15_v6 : Ref sig .tc := ⟨.hbm, 234, rfl⟩
abbrev main_call15_cst_3 : Ref sig .tc := ⟨.hbm, 235, rfl⟩
abbrev main_call15_call2_v0 : Ref sig .tc := ⟨.hbm, 236, rfl⟩
abbrev main_v101 : Ref sig .tc := ⟨.hbm, 237, rfl⟩
abbrev main_v102 : Ref sig .tc := ⟨.hbm, 238, rfl⟩
abbrev main_c_19 : Ref sig .tc := ⟨.hbm, 239, rfl⟩
abbrev main_call16_v0 : Ref sig .tc := ⟨.hbm, 240, rfl⟩
abbrev main_call16_v1 : Ref sig .tc := ⟨.hbm, 241, rfl⟩
abbrev main_v103 : Ref sig .tc := ⟨.hbm, 242, rfl⟩
abbrev main_c_20 : Ref sig .tc := ⟨.hbm, 243, rfl⟩
abbrev main_v104 : Ref sig .tc := ⟨.hbm, 244, rfl⟩
abbrev main_v105 : Ref sig .tc := ⟨.hbm, 245, rfl⟩
abbrev main_c_21 : Ref sig .tc := ⟨.hbm, 246, rfl⟩
abbrev main_v106 : Ref sig .tc := ⟨.hbm, 247, rfl⟩
abbrev main_v107 : Ref sig .tc := ⟨.hbm, 248, rfl⟩
abbrev main_c_22 : Ref sig .tc := ⟨.hbm, 249, rfl⟩
abbrev main_v108 : Ref sig .tc := ⟨.hbm, 250, rfl⟩
abbrev main_v109 : Ref sig .tc := ⟨.hbm, 251, rfl⟩
abbrev main_v110 : Ref sig .tc := ⟨.hbm, 252, rfl⟩
abbrev main_v111 : Ref sig .tc := ⟨.hbm, 253, rfl⟩
abbrev main_v112 : Ref sig .tc := ⟨.hbm, 254, rfl⟩
abbrev main_v113 : Ref sig .tc := ⟨.hbm, 255, rfl⟩
abbrev main_v114 : Ref sig .tc := ⟨.hbm, 256, rfl⟩
abbrev main_call17_v0 : Ref sig .tc := ⟨.hbm, 257, rfl⟩
abbrev main_call17_v1 : Ref sig .tc := ⟨.hbm, 258, rfl⟩
abbrev main_v115 : Ref sig .tc := ⟨.hbm, 259, rfl⟩
abbrev main_v116 : Ref sig .tc := ⟨.hbm, 260, rfl⟩
abbrev main_v117 : Ref sig .tc := ⟨.hbm, 261, rfl⟩
abbrev main_v118 : Ref sig .tc := ⟨.hbm, 262, rfl⟩
abbrev main_v119 : Ref sig .tc := ⟨.hbm, 263, rfl⟩
abbrev main_call18_v0 : Ref sig .tc := ⟨.hbm, 264, rfl⟩
abbrev main_call18_cst : Ref sig .tc := ⟨.hbm, 265, rfl⟩
abbrev main_call18_call0_v0 : Ref sig .tc := ⟨.hbm, 266, rfl⟩
abbrev main_call18_v1 : Ref sig .tc := ⟨.hbm, 267, rfl⟩
abbrev main_call18_cst_0 : Ref sig .tc := ⟨.hbm, 268, rfl⟩
abbrev main_call18_v2 : Ref sig .tc := ⟨.hbm, 269, rfl⟩
abbrev main_call18_v3 : Ref sig .tc := ⟨.hbm, 270, rfl⟩
abbrev main_call18_cst_1 : Ref sig .tc := ⟨.hbm, 271, rfl⟩
abbrev main_call18_call1_v0 : Ref sig .tc := ⟨.hbm, 272, rfl⟩
abbrev main_call18_v4 : Ref sig .tc := ⟨.hbm, 273, rfl⟩
abbrev main_call18_cst_2 : Ref sig .tc := ⟨.hbm, 274, rfl⟩
abbrev main_call18_v5 : Ref sig .tc := ⟨.hbm, 275, rfl⟩
abbrev main_call18_v6 : Ref sig .tc := ⟨.hbm, 276, rfl⟩
abbrev main_call18_cst_3 : Ref sig .tc := ⟨.hbm, 277, rfl⟩
abbrev main_call18_call2_v0 : Ref sig .tc := ⟨.hbm, 278, rfl⟩
abbrev main_v120 : Ref sig .tc := ⟨.hbm, 279, rfl⟩
abbrev main_v121 : Ref sig .tc := ⟨.hbm, 280, rfl⟩
abbrev main_c_23 : Ref sig .tc := ⟨.hbm, 281, rfl⟩
abbrev main_call19_v0 : Ref sig .tc := ⟨.hbm, 282, rfl⟩
abbrev main_call19_v1 : Ref sig .tc := ⟨.hbm, 283, rfl⟩
abbrev main_v122 : Ref sig .tc := ⟨.hbm, 284, rfl⟩
abbrev main_c_24 : Ref sig .tc := ⟨.hbm, 285, rfl⟩
abbrev main_v123 : Ref sig .tc := ⟨.hbm, 286, rfl⟩
abbrev main_v124 : Ref sig .tc := ⟨.hbm, 287, rfl⟩
abbrev main_c_25 : Ref sig .tc := ⟨.hbm, 288, rfl⟩
abbrev main_v125 : Ref sig .tc := ⟨.hbm, 289, rfl⟩
abbrev main_v126 : Ref sig .tc := ⟨.hbm, 290, rfl⟩
abbrev main_c_26 : Ref sig .tc := ⟨.hbm, 291, rfl⟩
abbrev main_v127 : Ref sig .tc := ⟨.hbm, 292, rfl⟩
abbrev main_v128 : Ref sig .tc := ⟨.hbm, 293, rfl⟩
abbrev main_v129 : Ref sig .tc := ⟨.hbm, 294, rfl⟩
abbrev main_v130 : Ref sig .tc := ⟨.hbm, 295, rfl⟩
abbrev main_v131 : Ref sig .tc := ⟨.hbm, 296, rfl⟩
abbrev main_v132 : Ref sig .tc := ⟨.hbm, 297, rfl⟩
abbrev main_v133 : Ref sig .tc := ⟨.hbm, 298, rfl⟩
abbrev main_call20_v0 : Ref sig .tc := ⟨.hbm, 299, rfl⟩
abbrev main_call20_v1 : Ref sig .tc := ⟨.hbm, 300, rfl⟩
abbrev main_v134 : Ref sig .tc := ⟨.hbm, 301, rfl⟩
abbrev main_v135 : Ref sig .tc := ⟨.hbm, 302, rfl⟩
abbrev main_v136 : Ref sig .tc := ⟨.hbm, 303, rfl⟩
abbrev main_v137 : Ref sig .tc := ⟨.hbm, 304, rfl⟩
abbrev main_v138 : Ref sig .tc := ⟨.hbm, 305, rfl⟩
abbrev main_call21_v0 : Ref sig .tc := ⟨.hbm, 306, rfl⟩
abbrev main_call21_cst : Ref sig .tc := ⟨.hbm, 307, rfl⟩
abbrev main_call21_call0_v0 : Ref sig .tc := ⟨.hbm, 308, rfl⟩
abbrev main_call21_v1 : Ref sig .tc := ⟨.hbm, 309, rfl⟩
abbrev main_call21_cst_0 : Ref sig .tc := ⟨.hbm, 310, rfl⟩
abbrev main_call21_v2 : Ref sig .tc := ⟨.hbm, 311, rfl⟩
abbrev main_call21_v3 : Ref sig .tc := ⟨.hbm, 312, rfl⟩
abbrev main_call21_cst_1 : Ref sig .tc := ⟨.hbm, 313, rfl⟩
abbrev main_call21_call1_v0 : Ref sig .tc := ⟨.hbm, 314, rfl⟩
abbrev main_call21_v4 : Ref sig .tc := ⟨.hbm, 315, rfl⟩
abbrev main_call21_cst_2 : Ref sig .tc := ⟨.hbm, 316, rfl⟩
abbrev main_call21_v5 : Ref sig .tc := ⟨.hbm, 317, rfl⟩
abbrev main_call21_v6 : Ref sig .tc := ⟨.hbm, 318, rfl⟩
abbrev main_call21_cst_3 : Ref sig .tc := ⟨.hbm, 319, rfl⟩
abbrev main_call21_call2_v0 : Ref sig .tc := ⟨.hbm, 320, rfl⟩
abbrev main_v139 : Ref sig .tc := ⟨.hbm, 321, rfl⟩
abbrev main_v140 : Ref sig .tc := ⟨.hbm, 322, rfl⟩
abbrev main_c_27 : Ref sig .tc := ⟨.hbm, 323, rfl⟩
abbrev main_call22_v0 : Ref sig .tc := ⟨.hbm, 324, rfl⟩
abbrev main_call22_v1 : Ref sig .tc := ⟨.hbm, 325, rfl⟩
abbrev main_v141 : Ref sig .tc := ⟨.hbm, 326, rfl⟩
abbrev main_c_28 : Ref sig .tc := ⟨.hbm, 327, rfl⟩
abbrev main_v142 : Ref sig .tc := ⟨.hbm, 328, rfl⟩
abbrev main_v143 : Ref sig .tc := ⟨.hbm, 329, rfl⟩
abbrev main_c_29 : Ref sig .tc := ⟨.hbm, 330, rfl⟩
abbrev main_v144 : Ref sig .tc := ⟨.hbm, 331, rfl⟩
abbrev main_v145 : Ref sig .tc := ⟨.hbm, 332, rfl⟩
abbrev main_c_30 : Ref sig .tc := ⟨.hbm, 333, rfl⟩
abbrev main_v146 : Ref sig .tc := ⟨.hbm, 334, rfl⟩
abbrev main_v147 : Ref sig .tc := ⟨.hbm, 335, rfl⟩
abbrev main_v148 : Ref sig .tc := ⟨.hbm, 336, rfl⟩
abbrev main_v149 : Ref sig .tc := ⟨.hbm, 337, rfl⟩
abbrev main_v150 : Ref sig .tc := ⟨.hbm, 338, rfl⟩
abbrev main_v151 : Ref sig .tc := ⟨.hbm, 339, rfl⟩
abbrev main_v152 : Ref sig .tc := ⟨.hbm, 340, rfl⟩
abbrev main_call23_v0 : Ref sig .tc := ⟨.hbm, 341, rfl⟩
abbrev main_call23_v1 : Ref sig .tc := ⟨.hbm, 342, rfl⟩
abbrev main_v153 : Ref sig .tc := ⟨.hbm, 343, rfl⟩
abbrev main_v154 : Ref sig .tc := ⟨.hbm, 344, rfl⟩
abbrev main_v155 : Ref sig .tc := ⟨.hbm, 345, rfl⟩
abbrev main_v156 : Ref sig .tc := ⟨.hbm, 346, rfl⟩
abbrev main_v157 : Ref sig .tc := ⟨.hbm, 347, rfl⟩
abbrev main_call24_v0 : Ref sig .tc := ⟨.hbm, 348, rfl⟩
abbrev main_call24_cst : Ref sig .tc := ⟨.hbm, 349, rfl⟩
abbrev main_call24_call0_v0 : Ref sig .tc := ⟨.hbm, 350, rfl⟩
abbrev main_call24_v1 : Ref sig .tc := ⟨.hbm, 351, rfl⟩
abbrev main_call24_cst_0 : Ref sig .tc := ⟨.hbm, 352, rfl⟩
abbrev main_call24_v2 : Ref sig .tc := ⟨.hbm, 353, rfl⟩
abbrev main_call24_v3 : Ref sig .tc := ⟨.hbm, 354, rfl⟩
abbrev main_call24_cst_1 : Ref sig .tc := ⟨.hbm, 355, rfl⟩
abbrev main_call24_call1_v0 : Ref sig .tc := ⟨.hbm, 356, rfl⟩
abbrev main_call24_v4 : Ref sig .tc := ⟨.hbm, 357, rfl⟩
abbrev main_call24_cst_2 : Ref sig .tc := ⟨.hbm, 358, rfl⟩
abbrev main_call24_v5 : Ref sig .tc := ⟨.hbm, 359, rfl⟩
abbrev main_call24_v6 : Ref sig .tc := ⟨.hbm, 360, rfl⟩
abbrev main_call24_cst_3 : Ref sig .tc := ⟨.hbm, 361, rfl⟩
abbrev main_call24_call2_v0 : Ref sig .tc := ⟨.hbm, 362, rfl⟩
abbrev main_v158 : Ref sig .tc := ⟨.hbm, 363, rfl⟩
abbrev main_v159 : Ref sig .tc := ⟨.hbm, 364, rfl⟩
abbrev main_c_31 : Ref sig .tc := ⟨.hbm, 365, rfl⟩
abbrev main_call25_v0 : Ref sig .tc := ⟨.hbm, 366, rfl⟩
abbrev main_call25_v1 : Ref sig .tc := ⟨.hbm, 367, rfl⟩
abbrev main_v160 : Ref sig .tc := ⟨.hbm, 368, rfl⟩
abbrev main_c_32 : Ref sig .tc := ⟨.hbm, 369, rfl⟩
abbrev main_v161 : Ref sig .tc := ⟨.hbm, 370, rfl⟩
abbrev main_v162 : Ref sig .tc := ⟨.hbm, 371, rfl⟩
abbrev main_c_33 : Ref sig .tc := ⟨.hbm, 372, rfl⟩
abbrev main_v163 : Ref sig .tc := ⟨.hbm, 373, rfl⟩
abbrev main_v164 : Ref sig .tc := ⟨.hbm, 374, rfl⟩
abbrev main_c_34 : Ref sig .tc := ⟨.hbm, 375, rfl⟩
abbrev main_v165 : Ref sig .tc := ⟨.hbm, 376, rfl⟩
abbrev main_v166 : Ref sig .tc := ⟨.hbm, 377, rfl⟩
abbrev main_v167 : Ref sig .tc := ⟨.hbm, 378, rfl⟩
abbrev main_v168 : Ref sig .tc := ⟨.hbm, 379, rfl⟩
abbrev main_v169 : Ref sig .tc := ⟨.hbm, 380, rfl⟩
abbrev main_v170 : Ref sig .tc := ⟨.hbm, 381, rfl⟩
abbrev main_v171 : Ref sig .tc := ⟨.hbm, 382, rfl⟩
abbrev main_call26_v0 : Ref sig .tc := ⟨.hbm, 383, rfl⟩
abbrev main_call26_v1 : Ref sig .tc := ⟨.hbm, 384, rfl⟩
abbrev main_v172 : Ref sig .tc := ⟨.hbm, 385, rfl⟩
abbrev main_v173 : Ref sig .tc := ⟨.hbm, 386, rfl⟩
abbrev main_v174 : Ref sig .tc := ⟨.hbm, 387, rfl⟩
abbrev main_v175 : Ref sig .tc := ⟨.hbm, 388, rfl⟩
abbrev main_v176 : Ref sig .tc := ⟨.hbm, 389, rfl⟩
abbrev main_call27_v0 : Ref sig .tc := ⟨.hbm, 390, rfl⟩
abbrev main_call27_cst : Ref sig .tc := ⟨.hbm, 391, rfl⟩
abbrev main_call27_call0_v0 : Ref sig .tc := ⟨.hbm, 392, rfl⟩
abbrev main_call27_v1 : Ref sig .tc := ⟨.hbm, 393, rfl⟩
abbrev main_call27_cst_0 : Ref sig .tc := ⟨.hbm, 394, rfl⟩
abbrev main_call27_v2 : Ref sig .tc := ⟨.hbm, 395, rfl⟩
abbrev main_call27_v3 : Ref sig .tc := ⟨.hbm, 396, rfl⟩
abbrev main_call27_cst_1 : Ref sig .tc := ⟨.hbm, 397, rfl⟩
abbrev main_call27_call1_v0 : Ref sig .tc := ⟨.hbm, 398, rfl⟩
abbrev main_call27_v4 : Ref sig .tc := ⟨.hbm, 399, rfl⟩
abbrev main_call27_cst_2 : Ref sig .tc := ⟨.hbm, 400, rfl⟩
abbrev main_call27_v5 : Ref sig .tc := ⟨.hbm, 401, rfl⟩
abbrev main_call27_v6 : Ref sig .tc := ⟨.hbm, 402, rfl⟩
abbrev main_call27_cst_3 : Ref sig .tc := ⟨.hbm, 403, rfl⟩
abbrev main_call27_call2_v0 : Ref sig .tc := ⟨.hbm, 404, rfl⟩
abbrev main_v177 : Ref sig .tc := ⟨.hbm, 405, rfl⟩
abbrev main_v178 : Ref sig .tc := ⟨.hbm, 406, rfl⟩
abbrev main_c_35 : Ref sig .tc := ⟨.hbm, 407, rfl⟩
abbrev main_call28_v0 : Ref sig .tc := ⟨.hbm, 408, rfl⟩
abbrev main_call28_v1 : Ref sig .tc := ⟨.hbm, 409, rfl⟩
abbrev main_v179 : Ref sig .tc := ⟨.hbm, 410, rfl⟩
abbrev main_c_36 : Ref sig .tc := ⟨.hbm, 411, rfl⟩
abbrev main_v180 : Ref sig .tc := ⟨.hbm, 412, rfl⟩
abbrev main_v181 : Ref sig .tc := ⟨.hbm, 413, rfl⟩
abbrev main_c_37 : Ref sig .tc := ⟨.hbm, 414, rfl⟩
abbrev main_v182 : Ref sig .tc := ⟨.hbm, 415, rfl⟩
abbrev main_v183 : Ref sig .tc := ⟨.hbm, 416, rfl⟩
abbrev main_c_38 : Ref sig .tc := ⟨.hbm, 417, rfl⟩
abbrev main_v184 : Ref sig .tc := ⟨.hbm, 418, rfl⟩
abbrev main_v185 : Ref sig .tc := ⟨.hbm, 419, rfl⟩
abbrev main_v186 : Ref sig .tc := ⟨.hbm, 420, rfl⟩
abbrev main_v187 : Ref sig .tc := ⟨.hbm, 421, rfl⟩
abbrev main_v188 : Ref sig .tc := ⟨.hbm, 422, rfl⟩
abbrev main_v189 : Ref sig .tc := ⟨.hbm, 423, rfl⟩
abbrev main_v190 : Ref sig .tc := ⟨.hbm, 424, rfl⟩
abbrev main_call29_v0 : Ref sig .tc := ⟨.hbm, 425, rfl⟩
abbrev main_call29_v1 : Ref sig .tc := ⟨.hbm, 426, rfl⟩
abbrev main_v191 : Ref sig .tc := ⟨.hbm, 427, rfl⟩
abbrev main_v192 : Ref sig .tc := ⟨.hbm, 428, rfl⟩
abbrev main_v193 : Ref sig .tc := ⟨.hbm, 429, rfl⟩
abbrev main_v194 : Ref sig .tc := ⟨.hbm, 430, rfl⟩
abbrev main_v195 : Ref sig .tc := ⟨.hbm, 431, rfl⟩
abbrev main_call30_v0 : Ref sig .tc := ⟨.hbm, 432, rfl⟩
abbrev main_call30_cst : Ref sig .tc := ⟨.hbm, 433, rfl⟩
abbrev main_call30_call0_v0 : Ref sig .tc := ⟨.hbm, 434, rfl⟩
abbrev main_call30_v1 : Ref sig .tc := ⟨.hbm, 435, rfl⟩
abbrev main_call30_cst_0 : Ref sig .tc := ⟨.hbm, 436, rfl⟩
abbrev main_call30_v2 : Ref sig .tc := ⟨.hbm, 437, rfl⟩
abbrev main_call30_v3 : Ref sig .tc := ⟨.hbm, 438, rfl⟩
abbrev main_call30_cst_1 : Ref sig .tc := ⟨.hbm, 439, rfl⟩
abbrev main_call30_call1_v0 : Ref sig .tc := ⟨.hbm, 440, rfl⟩
abbrev main_call30_v4 : Ref sig .tc := ⟨.hbm, 441, rfl⟩
abbrev main_call30_cst_2 : Ref sig .tc := ⟨.hbm, 442, rfl⟩
abbrev main_call30_v5 : Ref sig .tc := ⟨.hbm, 443, rfl⟩
abbrev main_call30_v6 : Ref sig .tc := ⟨.hbm, 444, rfl⟩
abbrev main_call30_cst_3 : Ref sig .tc := ⟨.hbm, 445, rfl⟩
abbrev main_call30_call2_v0 : Ref sig .tc := ⟨.hbm, 446, rfl⟩
abbrev main_v196 : Ref sig .tc := ⟨.hbm, 447, rfl⟩
abbrev main_v197 : Ref sig .tc := ⟨.hbm, 448, rfl⟩
abbrev main_c_39 : Ref sig .tc := ⟨.hbm, 449, rfl⟩
abbrev main_call31_v0 : Ref sig .tc := ⟨.hbm, 450, rfl⟩
abbrev main_call31_v1 : Ref sig .tc := ⟨.hbm, 451, rfl⟩
abbrev main_v198 : Ref sig .tc := ⟨.hbm, 452, rfl⟩
abbrev main_c_40 : Ref sig .tc := ⟨.hbm, 453, rfl⟩
abbrev main_v199 : Ref sig .tc := ⟨.hbm, 454, rfl⟩
abbrev main_v200 : Ref sig .tc := ⟨.hbm, 455, rfl⟩
abbrev main_c_41 : Ref sig .tc := ⟨.hbm, 456, rfl⟩
abbrev main_v201 : Ref sig .tc := ⟨.hbm, 457, rfl⟩
abbrev main_v202 : Ref sig .tc := ⟨.hbm, 458, rfl⟩
abbrev main_c_42 : Ref sig .tc := ⟨.hbm, 459, rfl⟩
abbrev main_v203 : Ref sig .tc := ⟨.hbm, 460, rfl⟩
abbrev main_v204 : Ref sig .tc := ⟨.hbm, 461, rfl⟩
abbrev main_v205 : Ref sig .tc := ⟨.hbm, 462, rfl⟩
abbrev main_v206 : Ref sig .tc := ⟨.hbm, 463, rfl⟩
abbrev main_v207 : Ref sig .tc := ⟨.hbm, 464, rfl⟩
abbrev main_v208 : Ref sig .tc := ⟨.hbm, 465, rfl⟩
abbrev main_v209 : Ref sig .tc := ⟨.hbm, 466, rfl⟩
abbrev main_call32_v0 : Ref sig .tc := ⟨.hbm, 467, rfl⟩
abbrev main_call32_v1 : Ref sig .tc := ⟨.hbm, 468, rfl⟩
abbrev main_v210 : Ref sig .tc := ⟨.hbm, 469, rfl⟩
abbrev main_v211 : Ref sig .tc := ⟨.hbm, 470, rfl⟩
abbrev main_v212 : Ref sig .tc := ⟨.hbm, 471, rfl⟩
abbrev main_v213 : Ref sig .tc := ⟨.hbm, 472, rfl⟩
abbrev main_v214 : Ref sig .tc := ⟨.hbm, 473, rfl⟩
abbrev main_v215 : Ref sig .tc := ⟨.hbm, 474, rfl⟩
abbrev main_v216 : Ref sig .tc := ⟨.hbm, 475, rfl⟩
abbrev main_v217 : Ref sig .tc := ⟨.hbm, 476, rfl⟩
abbrev main_v218 : Ref sig .tc := ⟨.hbm, 477, rfl⟩
abbrev main_v219 : Ref sig .tc := ⟨.hbm, 478, rfl⟩
abbrev main_v220 : Ref sig .tc := ⟨.hbm, 479, rfl⟩
abbrev main_v221 : Ref sig .tc := ⟨.hbm, 480, rfl⟩
abbrev main_v222 : Ref sig .tc := ⟨.hbm, 481, rfl⟩
abbrev main_v223 : Ref sig .tc := ⟨.hbm, 482, rfl⟩
abbrev main_v224 : Ref sig .tc := ⟨.hbm, 483, rfl⟩
abbrev main_call33_v0 : Ref sig .tc := ⟨.hbm, 484, rfl⟩
abbrev main_call33_cst : Ref sig .tc := ⟨.hbm, 485, rfl⟩
abbrev main_call33_call0_v0 : Ref sig .tc := ⟨.hbm, 486, rfl⟩
abbrev main_call33_v1 : Ref sig .tc := ⟨.hbm, 487, rfl⟩
abbrev main_call33_cst_0 : Ref sig .tc := ⟨.hbm, 488, rfl⟩
abbrev main_call33_v2 : Ref sig .tc := ⟨.hbm, 489, rfl⟩
abbrev main_call33_v3 : Ref sig .tc := ⟨.hbm, 490, rfl⟩
abbrev main_call33_cst_1 : Ref sig .tc := ⟨.hbm, 491, rfl⟩
abbrev main_call33_call1_v0 : Ref sig .tc := ⟨.hbm, 492, rfl⟩
abbrev main_call33_v4 : Ref sig .tc := ⟨.hbm, 493, rfl⟩
abbrev main_call33_cst_2 : Ref sig .tc := ⟨.hbm, 494, rfl⟩
abbrev main_call33_v5 : Ref sig .tc := ⟨.hbm, 495, rfl⟩
abbrev main_call33_v6 : Ref sig .tc := ⟨.hbm, 496, rfl⟩
abbrev main_call33_cst_3 : Ref sig .tc := ⟨.hbm, 497, rfl⟩
abbrev main_call33_call2_v0 : Ref sig .tc := ⟨.hbm, 498, rfl⟩
abbrev main_v225 : Ref sig .tc := ⟨.hbm, 499, rfl⟩
abbrev main_v226 : Ref sig .tc := ⟨.hbm, 500, rfl⟩
abbrev main_v227 : Ref sig .tc := ⟨.hbm, 501, rfl⟩
abbrev main_v228 : Ref sig .tc := ⟨.hbm, 502, rfl⟩
abbrev main_v229 : Ref sig .tc := ⟨.hbm, 503, rfl⟩
abbrev main_v230 : Ref sig .tc := ⟨.hbm, 504, rfl⟩
abbrev main_v231 : Ref sig .tc := ⟨.hbm, 505, rfl⟩
abbrev main_v232 : Ref sig .tc := ⟨.hbm, 506, rfl⟩
abbrev main_v233 : Ref sig .tc := ⟨.hbm, 507, rfl⟩
abbrev main_v234 : Ref sig .tc := ⟨.hbm, 508, rfl⟩
abbrev main_v235 : Ref sig .tc := ⟨.hbm, 509, rfl⟩
abbrev main_v236 : Ref sig .tc := ⟨.hbm, 510, rfl⟩
abbrev main_call34_v0 : Ref sig .tc := ⟨.hbm, 511, rfl⟩
abbrev main_call34_v1 : Ref sig .tc := ⟨.hbm, 512, rfl⟩
abbrev main_v237 : Ref sig .tc := ⟨.hbm, 513, rfl⟩
abbrev main_v238 : Ref sig .tc := ⟨.hbm, 514, rfl⟩
abbrev main_v239 : Ref sig .tc := ⟨.hbm, 515, rfl⟩
abbrev main_v240 : Ref sig .tc := ⟨.hbm, 516, rfl⟩
abbrev main_v241 : Ref sig .tc := ⟨.hbm, 517, rfl⟩
abbrev main_v242 : Ref sig .tc := ⟨.hbm, 518, rfl⟩
abbrev main_v243 : Ref sig .tc := ⟨.hbm, 519, rfl⟩
abbrev main_v244 : Ref sig .tc := ⟨.hbm, 520, rfl⟩
abbrev main_cst : Ref sig .tc := ⟨.hbm, 521, rfl⟩
abbrev main_v245 : Ref sig .tc := ⟨.hbm, 522, rfl⟩
abbrev main_v246 : Ref sig .tc := ⟨.hbm, 523, rfl⟩
abbrev main_v247 : Ref sig .tc := ⟨.hbm, 524, rfl⟩
abbrev main_cst_43 : Ref sig .tc := ⟨.hbm, 525, rfl⟩
abbrev main_v248 : Ref sig .tc := ⟨.hbm, 526, rfl⟩
abbrev main_v249 : Ref sig .tc := ⟨.hbm, 527, rfl⟩
abbrev main_v250 : Ref sig .tc := ⟨.hbm, 528, rfl⟩
abbrev main_v251 : Ref sig .tc := ⟨.hbm, 529, rfl⟩
abbrev main_v252 : Ref sig .tc := ⟨.hbm, 530, rfl⟩

abbrev nD : Nat := 1
abbrev τ : Topo := Topo.v7x

variable {F : FTy → Type} [FloatOps F]
-- ==== Proof.Run.lean ====
/-
  The kernel's run with its result: what the last boundary's contents hold of it.
-/
module

public import proofs.«01_k».proof.Proof.Gen.KernelIdeal.Frame

@[expose] public section

set_option maxRecDepth 16384

noncomputable section

namespace Cert.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel runs, and ends with its result at the last boundary's contents, its arguments
    as launched and every counter at zero. -/
theorem kernel_run : θ_run defs (onTc (τ := τ) (main (F := F))) ⟨m, fun _ => 0, ρ⟩ (fun r => (∀ c : Dev nD,
      r.2.mem ((c.tc : Thread nD τ).loc main_v87) = W25 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h hz => ⟨(fun c =>
      ⟨h c _ (mem_uc main_v87 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c)⟩), funext fun g => hz g (.inr (no_unscoped g.2))⟩)

end Cert.Val
-- ==== Proof.Gather.lean ====
/-
  Two reads of a gather: one element of a table named by two coordinates.
-/
module

public import proofs.«01_k».proof.KernelIdeal
public import Idealize.ShloMosaic.Lib.Pointwise
public import Idealize.ShloMosaic.Lib.Routing.Ops

@[expose] public section

set_option maxRecDepth 16384

noncomputable section

namespace Cert.Val

open Idealize.ShloMosaic
open Cert.KernelIdeal

variable {α : Type}

/-- Where the index pair at `k` holds the row `a` and the column `b` of the table, the element gather reads there. -/
theorem gather_elem [Cert.KernelIdeal.Facts] (x : S146x16.Idx → α) (idx : IVec S2512x2 32) (k : Fin 2512) (a : Fin 146) (b : Fin 16)
    (ha : idx (ix2 k 0) = BitVec.ofNat 32 a.val) (hb : idx (ix2 k 1) = BitVec.ofNat 32 b.val) :
    Host.gather gather_S146x16_S2512x2_S2512_n_01_n_n_01_1_11 x idx (ix1 k) = x (ix2 a b) := by
  unfold Host.gather
  refine congrArg x (funext fun q => Fin.ext ?_)
  have hoff (q : Fin 2) : gather_S146x16_S2512x2_S2512_n_01_n_n_01_1_11.offCoord (ix1 k) q = 0 :=
    GatherDims.offCoord_eq_zero _ _ _ fun h => ((GatherDims.mem_sKept _ _).1 h).1 (by
      match q with
      | ⟨0, _⟩ => exact List.mem_cons_self
      | ⟨1, _⟩ => exact List.mem_cons_of_mem _ List.mem_cons_self)
  have hst (q : Fin 2) (n : Nat) (hn : n < 146) (hq : n ≤ S146x16.size q - 1) (h : idx (ix2 k q) = BitVec.ofNat 32 n) :
      gather_S146x16_S2512x2_S2512_n_01_n_n_01_1_11.start (ix1 k) idx q = n := by
    unfold GatherDims.start
    have hm : q ∈ gather_S146x16_S2512x2_S2512_n_01_n_n_01_1_11.startIndexMap := by
      match q with
      | ⟨0, _⟩ => exact List.mem_cons_self
      | ⟨1, _⟩ => exact List.mem_cons_of_mem _ List.mem_cons_self
    rw [dif_pos hm]
    have hsi : gather_S146x16_S2512x2_S2512_n_01_n_n_01_1_11.siIdx (ix1 k)
        ⟨gather_S146x16_S2512x2_S2512_n_01_n_n_01_1_11.startIndexMap.idxOf q, List.idxOf_lt_length_iff.2 hm⟩ = ix2 k q := by
      funext b'
      apply Fin.ext
      match q, b' with
      | ⟨0, _⟩, ⟨0, _⟩ => rfl
      | ⟨0, _⟩, ⟨1, _⟩ => rfl
      | ⟨1, _⟩, ⟨0, _⟩ => rfl
      | ⟨1, _⟩, ⟨1, _⟩ => rfl
    rw [hsi, h, StableHlo.Predicate.toInt_ofNat_small _ (by omega)]
    have hs : gather_S146x16_S2512x2_S2512_n_01_n_n_01_1_11.sliceSizes q = 1 := by
      match q with
      | ⟨0, _⟩ => rfl
      | ⟨1, _⟩ => rfl
    rw [hs]
    show min ((n : Int)).toNat (S146x16.size q - 1) = n
    omega
  show gather_S146x16_S2512x2_S2512_n_01_n_n_01_1_11.start (ix1 k) idx q
    + gather_S146x16_S2512x2_S2512_n_01_n_n_01_1_11.batchCoord (ix1 k) q
    + gather_S146x16_S2512x2_S2512_n_01_n_n_01_1_11.offCoord (ix1 k) q = _
  rw [hoff, GatherDims.batchCoord_eq_zero _ _ _ List.not_mem_nil]
  match q with
  | ⟨0, _⟩ => exact hst 0 a.val (by omega) (by show a.val ≤ 146 - 1; omega) ha
  | ⟨1, _⟩ => exact hst 1 b.val (by omega) (by show b.val ≤ 16 - 1; omega) hb

end Cert.Val
-- ==== Proof.Lits.lean ====
/-
  The constant tables of the two programs in closed form.
-/
module

public import proofs.«01_k».proof.KernelIdeal

@[expose] public section

set_option maxRecDepth 16384

noncomputable section

namespace Cert.Val

open Idealize.ShloMosaic
open Cert.KernelIdeal

/-- Which positions belong to a continuous feature. -/
theorem lit0_eq : ∀ k : Fin 2512, lit0 k = BitVec.ofBool (decide (11 ≤ (k : Nat) % 157)) := by decide +kernel
/-- The row of the continuous weights a position reads. -/
theorem lit1_eq : ∀ k : Fin 2512, lit1 k = BitVec.ofNat 32 ((k : Nat) % 157 - 11) := by decide +kernel
/-- The hidden coordinate of a position. -/
theorem lit2_eq : ∀ k : Fin 2512, lit2 k = BitVec.ofNat 32 ((k : Nat) / 157) := by decide +kernel
/-- The row of the continuous biases a position reads. -/
theorem lit3_eq : ∀ k : Fin 2512, lit3 k = BitVec.ofNat 32 ((k : Nat) % 157 - 11) := by decide +kernel
/-- The feature of a position. -/
theorem lit4_eq : ∀ k : Fin 2512, lit4 k = BitVec.ofNat 32 ((k : Nat) % 157) := by decide +kernel

/-- The number of values of the first features before `f`. -/
def offN (f : Nat) : Nat := ([0, 2, 4, 6, 8, 11, 14, 18, 24, 31, 38, 45] : List Nat).getD f 0

/-- The number of values of the categorical feature `f`. -/
def vocabN (f : Nat) : Nat := ([2, 2, 2, 2, 3, 3, 4, 6, 7, 7, 7] : List Nat).getD f 0

/-- The feature the row `r` of the state table belongs to. -/
def featN (r : Nat) : Nat :=
  ([0, 0, 1, 1, 2, 2, 3, 3, 4, 4, 4, 5, 5, 5, 6, 6, 6, 6, 7, 7, 7, 7, 7, 7, 8, 8, 8, 8, 8, 8, 8, 9, 9, 9, 9, 9, 9, 9,
    10, 10, 10, 10, 10, 10, 10, 0, 1, 2, 3, 4, 5, 6, 7, 8, 9, 10] : List Nat).getD r 0

/-- The category the row `r` of the state table stands for. -/
def catN (r : Nat) : Nat := if r < 45 then r - offN (featN r) else 127

theorem lit5_lo : ∀ r : Fin 64, (r : Nat) < 56 → lit5 r = BitVec.ofNat 32 (featN r) := by decide +kernel
theorem lit5_hi : ∀ r : Fin 64, 56 ≤ (r : Nat) → lit5 r = BitVec.ofInt 32 (-2512) := by decide +kernel

/-- The pattern of minus `v` for the values in use. -/
def negBits (v : Nat) : BitVec 32 :=
  ([0x80000000#32, 0xBF800000#32, 0xC0000000#32, 0xC0400000#32, 0xC0800000#32, 0xC0A00000#32, 0xC0C00000#32] : List (BitVec 32)).getD v 0xC2FE0000#32

theorem lit6_lo : ∀ q : Fin 16, ∀ r : Fin 64, (r : Nat) < 56 → lit6 ⟨(q : Nat) * 64 + r, by omega⟩
    = if (q : Nat) = featN r then 0x3F800000#32 else if (q : Nat) = 11 then negBits (catN r) else 0#32 := by decide +kernel

end Cert.Val
-- ==== Proof.Block.lean ====
/-
  What one block of the kernel computes, element by element, at the ideal instance.
-/
module

public import proofs.«01_k».proof.Proof.Gen.KernelIdeal.Frame.Region0
public import Idealize.ShloMosaic.Lib.Pointwise
public import Idealize.ShloMosaic.Lib.Pipeline.Value

@[expose] public section

set_option maxRecDepth 16384

noncomputable section

namespace Cert.Val

open Idealize.ShloMosaic Idealize.ShloMosaic.TcCoe Idealize.SL.Sem
open Cert.KernelIdeal Cert.KernelIdeal.Gen

/-- The activation of the kernel: half of `a` times one plus the error function of `a` over the root of two. -/
def act (a : EReal) : EReal :=
  Ideal.ofBits .f32 0x3F000000#32 * a * (1 + Ideal.erf (a * Ideal.ofBits .f32 0x3F3504F3#32))

/-- The signed distance of a row's categories from what column `k` of the matrix `e` asks for. -/
def distE (x : Fin 157 → EReal) (e : Fin 16 → Fin 64 → EReal) (k : Fin 64) : EReal :=
  (∑ q : Fin 11, FloatOps.sitofp (F := Ideal) .f32 (FloatOps.fptosi (F := Ideal) (φ := .f32) 32 (x ⟨q, by omega⟩)) * e ⟨q, by omega⟩ k)
    + ∑ q : Fin 5, e ⟨11 + q, by omega⟩ k

/-- The expanded row the block multiplies with the weights: the row, its matches, a one, and zeros. -/
def uAt (x : Fin 157 → EReal) (e : Fin 16 → Fin 64 → EReal) (u : Fin 224) : EReal :=
  if h : (u : Nat) < 157 then x ⟨u, h⟩
  else if h : (u : Nat) - 157 < 64 then (if distE x e ⟨u - 157, h⟩ = 0 then 1 else 0)
  else if (u : Nat) - 157 - 64 < 1 then 1 else 0

/-- One element of the result from a row, the matching matrix and one column of the weights. -/
def rowOut (x : Fin 157 → EReal) (e : Fin 16 → Fin 64 → EReal) (w : Fin 224 → EReal) : EReal :=
  act (∑ u : Fin 224, uAt x e u * w u)

/-- A truth value widened and converted is one or zero. -/
theorem sitofp_ofBool (p : Prop) [Decidable p] :
    FloatOps.sitofp (F := Ideal) .f32 (BitVec.setWidth 32 (BitVec.ofBool (decide p))) = if p then (1 : EReal) else 0 := by
  have h (b : BitVec 32) : FloatOps.sitofp (F := Ideal) .f32 b = ((b.toInt : ℝ) : EReal) := rfl
  rw [h]
  by_cases hp : p <;> simp [hp]

/-- The expanded row of the block at an index. -/
theorem pay3_apply (x : Vec Ideal S64x4x157 .f32) (e : Vec Ideal S16x64 .f32) (r : Fin 256) (u : Fin 224) :
    k0_pay3 (F := Ideal) x e (ix2 r u)
      = uAt (fun d => x (ix3 ⟨r / 4, by omega⟩ ⟨r % 4, by omega⟩ d)) (fun q k => e (ix2 q k)) u := by
  pointwise [k0_pay3]
  simp only [sitofp_ofBool]
  rfl

/-- One column of the block: the activation of the row times the weights. -/
theorem pay9_apply (v : FVec Ideal S256x224 .f32) (k : Vec Ideal S1x224x157 .f32) (r : Fin 256) (d : Fin 157) :
    k0_pay9 (F := Ideal) v k (ix3 r 0 d) = act (∑ u : Fin 224, v (ix2 r u) * k (ix3 0 u d)) := by
  pointwise [k0_pay9]
  rfl

/-- The product behind the last columns, at an index. -/
theorem pay1_apply (v : FVec Ideal S256x224 .f32) (k : Vec Ideal S1x224x157 .f32) (r : Fin 256) (d : Fin 157) :
    k0_pay1 (F := Ideal) v k (ix2 r d) = ∑ u : Fin 224, v (ix2 r u) * k (ix3 0 u d) := by
  pointwise [k0_pay1]

/-- The sixteen columns put side by side and turned, at an index. -/
theorem pay2_apply (v28 v40 v52 v64 v76 v88 v100 v112 v124 v136 v148 v160 v172 v184 : FVec Ideal S256x1x157 .f32)
    (v187 v199 : FVec Ideal S256x157 .f32) (r : Fin 256) (d : Fin 157) (h : Fin 16) :
    k0_pay2 (F := Ideal) v28 v40 v52 v64 v76 v88 v100 v112 v124 v136 v148 v160 v172 v184 v187 v199 (ix3 r d h)
      = (![v28 (ix3 r 0 d), v40 (ix3 r 0 d), v52 (ix3 r 0 d), v64 (ix3 r 0 d), v76 (ix3 r 0 d), v88 (ix3 r 0 d),
          v100 (ix3 r 0 d), v112 (ix3 r 0 d), v124 (ix3 r 0 d), v136 (ix3 r 0 d), v148 (ix3 r 0 d), v160 (ix3 r 0 d),
          v172 (ix3 r 0 d), v184 (ix3 r 0 d), act (v187 (ix2 r d)), act (v199 (ix2 r d))] : Fin 16 → EReal) h := by
  fin_cases h <;> pointwise [k0_pay2] <;> rfl

/-- What one region leaves in its result array, from its slice of the rows, the matching matrix and the weights. -/
def regionOut (X : FVec Ideal S512x4x157 .f32) (E : FVec Ideal S16x64 .f32) (K : FVec Ideal S16x224x157 .f32) :
    FVec Ideal S2048x157x16 .f32 := fun i =>
  rowOut (fun d => X (ix3 ⟨(i 0 : Nat) / 4, by have h : (i 0 : Nat) < 2048 := (i 0).isLt; omega⟩ ⟨(i 0 : Nat) % 4, by omega⟩ d))
    (fun q k => E (ix2 q k)) (fun u => K (ix3 (i 2) u (i 1)))

theorem rowOut_congr {x x' : Fin 157 → EReal} {e e' : Fin 16 → Fin 64 → EReal} {w w' : Fin 224 → EReal}
    (hx : ∀ d, x d = x' d) (he : ∀ q k, e q k = e' q k) (hw : ∀ u, w u = w' u) : rowOut x e w = rowOut x' e' w' := by
  rw [show x = x' from funext hx, show e = e' from funext fun q => funext (he q), show w = w' from funext hw]

theorem hz3 : (![0, 0, 0] : Fin 3 → Nat) = fun _ => 0 := funext fun a => by fin_cases a <;> rfl
theorem hz2 : (![0, 0] : Fin 2 → Nat) = fun _ => 0 := funext fun a => by fin_cases a <;> rfl

/-- What the block stores, at an index. -/
theorem out_apply (x0 : Vec Ideal S64x4x157 .f32) (x1 : Vec Ideal S16x64 .f32) (x2 : Vec Ideal S16x224x157 .f32)
    (r : Fin 256) (d : Fin 157) (h : Fin 16) :
    out0_3 (F := Ideal) x0 x1 x2 (ix3 r d h)
      = rowOut (fun d' => x0 (ix3 ⟨r / 4, by omega⟩ ⟨r % 4, by omega⟩ d')) (fun q k => x1 (ix2 q k)) (fun u => x2 (ix3 h u d)) := by
  have hu : ∀ u, k0_pay3 (F := Ideal) x0 x1 (ix2 r u) = uAt (fun d' => x0 (ix3 ⟨r / 4, by omega⟩ ⟨r % 4, by omega⟩ d')) (fun q k => x1 (ix2 q k)) u :=
    fun u => pay3_apply x0 x1 r u
  unfold out0_3 k0_pay26
  rw [View.canon_unit_zero hz3, View.ld_unit_zero hz3, View.ld_unit_zero hz2, pay2_apply]
  unfold rowOut
  simp only [← hu]
  fin_cases h
  case «0» => exact (pay9_apply _ _ r d).trans (by pointwise)
  case «1» => exact (pay9_apply _ _ r d).trans (by pointwise)
  case «2» => exact (pay9_apply _ _ r d).trans (by pointwise)
  case «3» => exact (pay9_apply _ _ r d).trans (by pointwise)
  case «4» => exact (pay9_apply _ _ r d).trans (by pointwise)
  case «5» => exact (pay9_apply _ _ r d).trans (by pointwise)
  case «6» => exact (pay9_apply _ _ r d).trans (by pointwise)
  case «7» => exact (pay9_apply _ _ r d).trans (by pointwise)
  case «8» => exact (pay9_apply _ _ r d).trans (by pointwise)
  case «9» => exact (pay9_apply _ _ r d).trans (by pointwise)
  case «10» => exact (pay9_apply _ _ r d).trans (by pointwise)
  case «11» => exact (pay9_apply _ _ r d).trans (by pointwise)
  case «12» => exact (pay9_apply _ _ r d).trans (by pointwise)
  case «13» => exact (pay9_apply _ _ r d).trans (by pointwise)
  case «14» => exact congrArg act ((pay1_apply _ _ r d).trans (by pointwise))
  case «15» => exact congrArg act ((pay1_apply _ _ r d).trans (by pointwise))

end Cert.Val
-- ==== Proof.Spec.lean ====
/-
  What both programs compute: the embedded value of every feature, and the rows the claim speaks of.
-/
module

public import proofs.«01_k».proof.Proof.Block
public import proofs.«01_k».proof.Proof.Lits
public import Idealize.ShloMosaic.PureOps.Ideal.Laws

@[expose] public section

set_option maxRecDepth 16384

noncomputable section

namespace Cert.Val

open Idealize.ShloMosaic

/-- The category an input element holds. -/
def catOf (x : EReal) : Nat := (FloatOps.fptosi (F := Ideal) (φ := .f32) 32 x).toNat

theorem catOf_eq (x : EReal) : FloatOps.fptosi (F := Ideal) (φ := .f32) 32 x = BitVec.ofNat 32 (catOf x) :=
  (BitVec.eq_of_toNat_eq (by rw [BitVec.toNat_ofNat]; exact Nat.mod_eq_of_lt (BitVec.isLt _))).symm

/-- A row of the input the claim speaks of: every entry finite, every category one of its feature's. -/
structure GoodRow (x : Fin 157 → EReal) : Prop where
  top : ∀ d, x d ≠ ⊤
  bot : ∀ d, x d ≠ ⊥
  cat : ∀ d : Fin 157, (d : Nat) < 11 → catOf (x d) < vocabN d

theorem off_lt : ∀ f : Fin 11, ∀ w : Fin 8, (w : Nat) < vocabN f → offN f + w < 45 := by decide +kernel

theorem vocab_le : ∀ f : Fin 11, vocabN f < 8 := by decide +kernel

theorem off_cat (d : Nat) (w : Nat) (h : d < 11) (hw : w < vocabN d) : offN d + w < 45 :=
  off_lt ⟨d, h⟩ ⟨w, lt_trans hw (vocab_le ⟨d, h⟩)⟩ hw

/-- The embedded value of feature `d` at hidden coordinate `h`. -/
def embed (x : Fin 157 → EReal) (T : Fin 45 → Fin 16 → EReal) (W B : Fin 146 → Fin 16 → EReal) (d : Fin 157) (h : Fin 16) : EReal :=
  if hd : (d : Nat) < 11 then T ⟨min (offN d + catOf (x d)) 44, by omega⟩ h
  else x d * W ⟨d - 11, by omega⟩ h + B ⟨d - 11, by omega⟩ h

/-- On a row of the claim the table's row is the offset plus the category. -/
theorem embed_cat (x : Fin 157 → EReal) (T : Fin 45 → Fin 16 → EReal) (W B : Fin 146 → Fin 16 → EReal) (hx : GoodRow x)
    (d : Fin 157) (h : Fin 16) (hd : (d : Nat) < 11) :
    embed x T W B d h = T ⟨offN d + catOf (x d), off_cat d _ hd (hx.cat d hd)⟩ h := by
  unfold embed
  rw [dif_pos hd]
  congr 1
  exact Fin.ext (Nat.min_eq_left (Nat.le_of_lt_succ (off_cat d _ hd (hx.cat d hd))))

theorem ofBits_one : Ideal.ofBits .f32 0x3F800000#32 = 1 := by
  simp [Ideal.ofBits, Ideal.ieee, -EReal.coe_mul]; norm_num

/-- The activation through the complementary error function, as the reference writes it. -/
theorem act_erfc (a : EReal) :
    Ideal.ofBits .f32 1056964608#32 * a * Ideal.erfc (-a * Ideal.ofBits .f32 1060439283#32) = act a := by
  unfold act
  rw [neg_mul, Ideal.erfc_neg]

end Cert.Val
-- ==== Proof.Weights.lean ====
/-
  The arrays the host prepares before the first region, read at an index: the continuous weights, the column of biases, the
  table of states and where each state's row goes.
-/
module

public import proofs.«01_k».proof.Proof.Gen.KernelIdeal.Frame.Fold0
public import proofs.«01_k».proof.Proof.Gather
public import proofs.«01_k».proof.Proof.Lits
public import proofs.«01_k».proof.Proof.Spec
public import Idealize.ShloMosaic.Lib.Pointwise
public import Idealize.ShloMosaic.Lib.StableHlo.RunRead

@[expose] public section

set_option maxRecDepth 16384

noncomputable section

namespace Cert.Val

open Idealize.ShloMosaic Idealize.ShloMosaic.TcCoe Idealize.SL.Sem
open Cert.KernelIdeal Cert.KernelIdeal.Gen

/-- A buffer's contents as the function of its indices they are. -/
abbrev fl (s : Shape) (f : FVec Ideal s .f32) : s.Idx → EReal := f

variable (V : Valuation τ sig (Elt Ideal))

abbrev A1 : Valuation τ sig (Elt Ideal) := StableHlo.after hostOps0 V
abbrev A2 : Valuation τ sig (Elt Ideal) := StableHlo.after hostOps0_1 (A1 V)
abbrev A3 : Valuation τ sig (Elt Ideal) := StableHlo.after hostOps0_2 (A2 V)
abbrev A4 : Valuation τ sig (Elt Ideal) := StableHlo.after hostOps0_3 (A3 V)
abbrev A5 : Valuation τ sig (Elt Ideal) := StableHlo.after hostOps0_4 (A4 V)
abbrev A6 : Valuation τ sig (Elt Ideal) := StableHlo.after hostOps0_5 (A5 V)
abbrev A7 : Valuation τ sig (Elt Ideal) := StableHlo.after hostOps0_6 (A6 V)
abbrev A8 : Valuation τ sig (Elt Ideal) := StableHlo.after hostOps0_7 (A7 V)
abbrev A9 : Valuation τ sig (Elt Ideal) := StableHlo.after hostOps0_8 (A8 V)

/-- An index inside its axis is not moved. -/
theorem norm146 : ∀ n : Fin 146, Scalar.select (IntOp.cmpi .slt (BitVec.ofNat 32 n) 0#32)
    (IntOp.addi (BitVec.ofNat 32 n) 146#32) (BitVec.ofNat 32 n) = BitVec.ofNat 32 (n : Nat) := by decide +kernel
theorem norm16 : ∀ n : Fin 16, Scalar.select (IntOp.cmpi .slt (BitVec.ofNat 32 n) 0#32)
    (IntOp.addi (BitVec.ofNat 32 n) 16#32) (BitVec.ofNat 32 n) = BitVec.ofNat 32 (n : Nat) := by decide +kernel

/-- Where a table at a vector's index is read. -/
theorem rowMajor1 (k : Fin 2512) : (S2512.rowMajor (ix1 k) : Fin 2512) = k :=
  Fin.ext (Shape.rowMajor_val_one _)

theorem idxW0 (k : Fin 2512) : (A1 V (Proc.devRef .tc main_v12) : IVec S2512x2 32) (ix2 k 0) = BitVec.ofNat 32 ((k : Nat) % 157 - 11) := by
  after_reads_simp
  pointwise
  rw [rowMajor1, lit1_eq]
  exact norm146 ⟨k % 157 - 11, by omega⟩

theorem idxW1 (k : Fin 2512) : (A1 V (Proc.devRef .tc main_v12) : IVec S2512x2 32) (ix2 k 1) = BitVec.ofNat 32 ((k : Nat) / 157) := by
  after_reads_simp
  pointwise
  rw [rowMajor1, lit2_eq]
  exact norm16 ⟨k / 157, by omega⟩

/-- The continuous weight a position reads. -/
theorem v13_eq (k : Fin 2512) : (fl S2512 (A1 V (Proc.devRef .tc main_v13))) (ix1 k)
    = (fl S146x16 (V (Proc.devRef .tc main_arg3))) (ix2 ⟨k % 157 - 11, by omega⟩ ⟨k / 157, by omega⟩) := by
  have h : A1 V (Proc.devRef .tc main_v13) = Host.gather gather_S146x16_S2512x2_S2512_n_01_n_n_01_1_11
      (V (Proc.devRef .tc main_arg3)) (A1 V (Proc.devRef .tc main_v12)) := by after_reads_simp
  rw [h]
  exact gather_elem _ _ k ⟨k % 157 - 11, by omega⟩ ⟨k / 157, by omega⟩ (idxW0 V k) (idxW1 V k)

theorem where0 : StableHlo.after hostOps0_1 V (Proc.devRef .tc main_v14)
    = select (V (Proc.devRef .tc main_c)) (V (Proc.devRef .tc main_v13)) (broadcastInDim S2512 ![] bcast_S_S2512 (V (Proc.devRef .tc main_cst_9))) := by
  after_reads_simp
  rfl

theorem c_eq (k : Fin 2512) : (A1 V (Proc.devRef .tc main_c) : S2512.Idx → BitVec 1) (ix1 k) = BitVec.ofBool (decide (11 ≤ (k : Nat) % 157)) := by
  after_reads_simp
  show lit0 (S2512.rowMajor (ix1 k)) = _
  rw [rowMajor1, lit0_eq]

/-- The continuous weight of a position, zero for a categorical feature. -/
theorem v14_eq (k : Fin 2512) : (fl S2512 (A2 V (Proc.devRef .tc main_v14))) (ix1 k)
    = if 11 ≤ (k : Nat) % 157 then (fl S146x16 (V (Proc.devRef .tc main_arg3))) (ix2 ⟨k % 157 - 11, by omega⟩ ⟨k / 157, by omega⟩)
      else (0 : EReal) := by
  have h9 : A1 V (Proc.devRef .tc main_cst_9) = constant (F := Ideal) S_ .f32 0x00000000#32 := by after_reads_simp
  have e : A2 V (Proc.devRef .tc main_v14) = _ := where0 (A1 V)
  rw [h9] at e
  rw [e]
  show Scalar.select ((A1 V (Proc.devRef .tc main_c) : S2512.Idx → BitVec 1) (ix1 k)) ((fl S2512 (A1 V (Proc.devRef .tc main_v13))) (ix1 k)) _ = _
  rw [c_eq, v13_eq]
  by_cases hk : 11 ≤ (k : Nat) % 157
  · rw [if_pos hk, decide_eq_true hk]; rfl
  · rw [if_neg hk, decide_eq_false hk]; exact Ideal.ofBits_zero .f32

theorem idxB0 (k : Fin 2512) : (A3 V (Proc.devRef .tc main_v28) : IVec S2512x2 32) (ix2 k 0) = BitVec.ofNat 32 ((k : Nat) % 157 - 11) := by
  after_reads_simp
  pointwise
  rw [rowMajor1, lit3_eq]
  exact norm146 ⟨k % 157 - 11, by omega⟩

theorem idxB1 (k : Fin 2512) : (A3 V (Proc.devRef .tc main_v28) : IVec S2512x2 32) (ix2 k 1) = BitVec.ofNat 32 ((k : Nat) / 157) := by
  after_reads_simp
  pointwise
  rw [rowMajor1, lit2_eq]
  exact norm16 ⟨k / 157, by omega⟩

/-- The continuous bias a position reads. -/
theorem v29_eq (k : Fin 2512) : (fl S2512 (A3 V (Proc.devRef .tc main_v29))) (ix1 k)
    = (fl S146x16 (V (Proc.devRef .tc main_arg4))) (ix2 ⟨k % 157 - 11, by omega⟩ ⟨k / 157, by omega⟩) := by
  have h : A3 V (Proc.devRef .tc main_v29) = Host.gather gather_S146x16_S2512x2_S2512_n_01_n_n_01_1_11
      (V (Proc.devRef .tc main_arg4)) (A3 V (Proc.devRef .tc main_v28)) := by after_reads_simp
  rw [h]
  exact gather_elem _ _ k ⟨k % 157 - 11, by omega⟩ ⟨k / 157, by omega⟩ (idxB0 V k) (idxB1 V k)

theorem where1 : StableHlo.after hostOps0_3 V (Proc.devRef .tc main_v30)
    = select (V (Proc.devRef .tc main_c)) (V (Proc.devRef .tc main_v29)) (broadcastInDim S2512 ![] bcast_S_S2512 (V (Proc.devRef .tc main_cst_14))) := by
  after_reads_simp
  rfl

/-- The continuous bias of a position, zero for a categorical feature. -/
theorem v30_eq (k : Fin 2512) : (fl S2512 (A4 V (Proc.devRef .tc main_v30))) (ix1 k)
    = if 11 ≤ (k : Nat) % 157 then (fl S146x16 (V (Proc.devRef .tc main_arg4))) (ix2 ⟨k % 157 - 11, by omega⟩ ⟨k / 157, by omega⟩)
      else (0 : EReal) := by
  have h9 : A3 V (Proc.devRef .tc main_cst_14) = constant (F := Ideal) S_ .f32 0x00000000#32 := by after_reads_simp
  have hc : (A3 V (Proc.devRef .tc main_c)) = A1 V (Proc.devRef .tc main_c) := by after_reads_simp
  have e : A4 V (Proc.devRef .tc main_v30) = _ := where1 (A3 V)
  rw [h9, hc] at e
  rw [e]
  show Scalar.select ((A1 V (Proc.devRef .tc main_c) : S2512.Idx → BitVec 1) (ix1 k)) ((fl S2512 (A3 V (Proc.devRef .tc main_v29))) (ix1 k)) _ = _
  rw [c_eq, v29_eq]
  by_cases hk : 11 ≤ (k : Nat) % 157
  · rw [if_pos hk, decide_eq_true hk]; rfl
  · rw [if_neg hk, decide_eq_false hk]; exact Ideal.ofBits_zero .f32

theorem v31_raw (k : Fin 2512) : (fl S2512 (StableHlo.after hostOps0_4 V (Proc.devRef .tc main_v31))) (ix1 k)
    = fl S2512 (V (Proc.devRef .tc main_v15)) (ix1 k) + fl S2512 (V (Proc.devRef .tc main_v30)) (ix1 k) := by
  after_reads_simp
  rfl

theorem v15_eq (k : Fin 2512) : fl S2512 (A4 V (Proc.devRef .tc main_v15)) (ix1 k)
    = fl S157x16 (V (Proc.devRef .tc main_arg5)) (ix2 ⟨k / 16, by omega⟩ ⟨k % 16, by omega⟩) := by
  after_reads_simp
  pointwise
  rfl

/-- The column of biases: the positional table plus the continuous bias. -/
theorem v31_eq (k : Fin 2512) : (fl S2512 (A5 V (Proc.devRef .tc main_v31))) (ix1 k)
    = fl S157x16 (V (Proc.devRef .tc main_arg5)) (ix2 ⟨k / 16, by omega⟩ ⟨k % 16, by omega⟩)
      + fl S2512 (A4 V (Proc.devRef .tc main_v30)) (ix1 k) :=
  (v31_raw (A4 V) k).trans (congrArg (· + _) (v15_eq V k))

theorem where2 : StableHlo.after hostOps0_5 V (Proc.devRef .tc main_v36)
    = select (V (Proc.devRef .tc main_v35)) (broadcastInDim S157x2512 ![] bcast_S_S157x2512 (V (Proc.devRef .tc main_cst_15)))
        (broadcastInDim S157x2512 ![] bcast_S_S157x2512 (V (Proc.devRef .tc main_cst_16))) := by
  after_reads_simp
  rfl

/-- Which row of the weights takes a position's continuous weight. -/
theorem v36_eq (u : Fin 157) (k : Fin 2512) : (fl S157x2512 (A6 V (Proc.devRef .tc main_v36))) (ix2 u k)
    = if (u : Nat) = (k : Nat) % 157 then (1 : EReal) else 0 := by
  have h1 : A5 V (Proc.devRef .tc main_cst_15) = constant (F := Ideal) S_ .f32 0x3F800000#32 := by after_reads_simp
  have h0 : A5 V (Proc.devRef .tc main_cst_16) = constant (F := Ideal) S_ .f32 0x00000000#32 := by after_reads_simp
  have hc : (A5 V (Proc.devRef .tc main_v35) : S157x2512.Idx → BitVec 1) (ix2 u k) = BitVec.ofBool (decide ((u : Nat) = (k : Nat) % 157)) := by
    after_reads_simp
    pointwise
    rw [rowMajor1, lit4_eq]
    show BitVec.ofBool (decide (BitVec.ofNat 32 (u : Nat) = BitVec.ofNat 32 ((k : Nat) % 157))) = _
    congr 1
    refine decide_eq_decide.2 ⟨fun h => ?_, fun h => by rw [h]⟩
    have := congrArg BitVec.toNat h
    simp only [BitVec.toNat_ofNat] at this
    omega
  have e : A6 V (Proc.devRef .tc main_v36) = _ := where2 (A5 V)
  rw [h1, h0] at e
  rw [e]
  show Scalar.select ((A5 V (Proc.devRef .tc main_v35) : S157x2512.Idx → BitVec 1) (ix2 u k)) (Ideal.ofBits .f32 0x3F800000#32) (Ideal.ofBits .f32 0x00000000#32) = _
  rw [hc, ofBits_one, Ideal.ofBits_zero]
  by_cases hk : (u : Nat) = (k : Nat) % 157
  · rw [if_pos hk, decide_eq_true hk]; rfl
  · rw [if_neg hk, decide_eq_false hk]; rfl

theorem v40_raw (u : Fin 157) (k : Fin 2512) : (fl S157x2512 (StableHlo.after hostOps0_6 V (Proc.devRef .tc main_v40))) (ix2 u k)
    = fl S157x2512 (V (Proc.devRef .tc main_v36)) (ix2 u k) * fl S2512 (V (Proc.devRef .tc main_v14)) (ix1 k) := by
  after_reads_simp
  pointwise
  rfl

/-- The rows of the weights a row of the input meets. -/
theorem v40_eq (u : Fin 157) (k : Fin 2512) : fl S157x2512 (A7 V (Proc.devRef .tc main_v40)) (ix2 u k)
    = fl S157x2512 (A6 V (Proc.devRef .tc main_v36)) (ix2 u k) * fl S2512 (A2 V (Proc.devRef .tc main_v14)) (ix1 k) := by
  have h14 : A6 V (Proc.devRef .tc main_v14) = A2 V (Proc.devRef .tc main_v14) :=
    (StableHlo.after_of_writes_sub hostOps0_5 _ hostOps0_5_writes (by decide)).trans
      ((StableHlo.after_of_writes_sub hostOps0_4 _ hostOps0_4_writes (by decide)).trans
      ((StableHlo.after_of_writes_sub hostOps0_3 _ hostOps0_3_writes (by decide)).trans
        (StableHlo.after_of_writes_sub hostOps0_2 _ hostOps0_2_writes (by decide))))
  rw [← h14]
  exact v40_raw (A6 V) u k

/-- The table of states: the categories' rows, the row for a missing value once per feature, zeros. -/
theorem v43_eq (r : Fin 64) (q : Fin 16) : (fl S64x16 (A7 V (Proc.devRef .tc main_v43))) (ix2 r q)
    = if h : (r : Nat) < 45 then (fl S45x16 (V (Proc.devRef .tc main_arg1))) (ix2 ⟨r, h⟩ q)
      else if (r : Nat) - 45 < 11 then (fl S1x16 (V (Proc.devRef .tc main_arg2))) (ix2 0 q) else (0 : EReal) := by
  after_reads_simp
  pointwise
  after_reads_simp
  pointwise
  rfl

theorem where3 : StableHlo.after hostOps0_7 V (Proc.devRef .tc main_v52)
    = select (V (Proc.devRef .tc main_v51)) (broadcastInDim S64x16x2512 ![] bcast_S_S64x16x2512 (V (Proc.devRef .tc main_cst_19)))
        (broadcastInDim S64x16x2512 ![] bcast_S_S64x16x2512 (V (Proc.devRef .tc main_cst_20))) := by
  after_reads_simp
  rfl

/-- Where each state's row goes: state `r` of feature `f` to position `157 q + f`, the padding nowhere. -/
theorem v52_eq (r : Fin 64) (q : Fin 16) (k : Fin 2512) : (fl S64x16x2512 (A8 V (Proc.devRef .tc main_v52))) (ix3 r q k)
    = if (r : Nat) < 56 ∧ (k : Nat) = 157 * q + featN r then (1 : EReal) else 0 := by
  have h1 : A7 V (Proc.devRef .tc main_cst_19) = constant (F := Ideal) S_ .f32 0x3F800000#32 := by after_reads_simp
  have h0 : A7 V (Proc.devRef .tc main_cst_20) = constant (F := Ideal) S_ .f32 0x00000000#32 := by after_reads_simp
  have hf : ∀ r : Fin 64, featN r < 11 := by decide +kernel
  have hc : (A7 V (Proc.devRef .tc main_v51) : S64x16x2512.Idx → BitVec 1) (ix3 r q k)
      = BitVec.ofBool (decide ((r : Nat) < 56 ∧ (k : Nat) = 157 * q + featN r)) := by
    have hr : (S64.rowMajor (ix1 r) : Fin 64) = r := Fin.ext (Shape.rowMajor_val_one _)
    after_reads_simp
    pointwise
    rw [hr]
    show BitVec.ofBool (decide (BitVec.ofNat 32 (k : Nat) = 157#32 * BitVec.ofNat 32 (q : Nat) + lit5 r)) = _
    congr 1
    by_cases h56 : (r : Nat) < 56
    · rw [lit5_lo r h56]
      refine decide_eq_decide.2 ⟨fun h => ⟨h56, ?_⟩, fun h => ?_⟩
      · have := congrArg BitVec.toNat h
        simp only [BitVec.toNat_add, BitVec.toNat_mul, BitVec.toNat_ofNat] at this
        have := hf r
        omega
      · rw [h.2, BitVec.ofNat_add, BitVec.ofNat_mul]
    · rw [lit5_hi r (by omega)]
      refine decide_eq_decide.2 ⟨fun h => ?_, fun h => absurd h.1 h56⟩
      have key : ∀ q : Fin 16, 2512 ≤ (157#32 * BitVec.ofNat 32 (q : Nat) + BitVec.ofInt 32 (-2512)).toNat := by decide +kernel
      have := key q
      rw [← h, BitVec.toNat_ofNat] at this
      omega
  have e : A8 V (Proc.devRef .tc main_v52) = _ := where3 (A7 V)
  rw [h1, h0] at e
  rw [e]
  show Scalar.select ((A7 V (Proc.devRef .tc main_v51) : S64x16x2512.Idx → BitVec 1) (ix3 r q k)) (Ideal.ofBits .f32 0x3F800000#32) (Ideal.ofBits .f32 0x00000000#32) = _
  rw [hc, ofBits_one, Ideal.ofBits_zero]
  by_cases hk : (r : Nat) < 56 ∧ (k : Nat) = 157 * q + featN r
  · rw [if_pos hk, decide_eq_true hk]; rfl
  · rw [if_neg hk, decide_eq_false hk]; rfl

/-- The weights as the regions read them, by row. -/
theorem v62_raw (h : Fin 16) (u : Fin 224) (d : Fin 157) : (fl S16x224x157 (StableHlo.after hostOps0_8 V (Proc.devRef .tc main_v62))) (ix3 h u d)
    = if hu : (u : Nat) < 157 then (fl S157x2512 (V (Proc.devRef .tc main_v40))) (ix2 ⟨u, hu⟩ ⟨(d : Nat) * 16 + h, by omega⟩)
      else if hu : (u : Nat) - 157 < 64 then
        ∑ q : Fin 16, (fl S64x16 (V (Proc.devRef .tc main_v43))) (ix2 ⟨u - 157, hu⟩ q)
          * (fl S64x16x2512 (V (Proc.devRef .tc main_v52))) (ix3 ⟨u - 157, hu⟩ q ⟨(d : Nat) * 16 + h, by omega⟩)
      else if (u : Nat) - 157 - 64 < 1 then (fl S2512 (V (Proc.devRef .tc main_v31))) (ix1 ⟨(d : Nat) * 16 + h, by omega⟩)
      else (0 : EReal) := by
  after_reads_simp
  pointwise
  after_reads_simp
  pointwise
  rfl

/-- The matrix the regions match states with. -/
theorem cst_eq (q : Fin 16) (r : Fin 64) : fl S16x64 (A9 V (Proc.devRef .tc main_cst)) (ix2 q r)
    = Ideal.ofBits .f32 (lit6 ⟨(q : Nat) * 64 + r, by omega⟩) := by
  after_reads_simp
  show Ideal.ofBits .f32 (lit6 (S16x64.rowMajor (ix2 q r))) = _
  congr 2
  exact Fin.ext (Shape.rowMajor_val_two _)

/-- The weights of position `k`, row by row. -/
def wCol (T : Fin 45 → Fin 16 → EReal) (N : Fin 16 → EReal) (W B : Fin 146 → Fin 16 → EReal) (P : Fin 157 → Fin 16 → EReal)
    (k : Fin 2512) (u : Fin 224) : EReal :=
  if (u : Nat) < 157 then
    (if (u : Nat) = (k : Nat) % 157 then 1 else 0)
      * (if 11 ≤ (k : Nat) % 157 then W ⟨k % 157 - 11, by omega⟩ ⟨k / 157, by omega⟩ else 0)
  else if (u : Nat) - 157 < 64 then
    ∑ q : Fin 16, (if h : (u : Nat) - 157 < 45 then T ⟨u - 157, h⟩ q else if (u : Nat) - 157 - 45 < 11 then N q else 0)
      * (if (u : Nat) - 157 < 56 ∧ (k : Nat) = 157 * q + featN (u - 157) then 1 else 0)
  else if (u : Nat) - 157 - 64 < 1 then
    P ⟨k / 16, by omega⟩ ⟨k % 16, by omega⟩ + (if 11 ≤ (k : Nat) % 157 then B ⟨k % 157 - 11, by omega⟩ ⟨k / 157, by omega⟩ else 0)
  else 0

/-- The weights the regions read, from the arguments. -/
theorem v62_eq (h : Fin 16) (u : Fin 224) (d : Fin 157) : fl S16x224x157 (A9 V (Proc.devRef .tc main_v62)) (ix3 h u d)
    = wCol (fun r q => fl S45x16 (V (Proc.devRef .tc main_arg1)) (ix2 r q)) (fun q => fl S1x16 (V (Proc.devRef .tc main_arg2)) (ix2 0 q))
        (fun r q => fl S146x16 (V (Proc.devRef .tc main_arg3)) (ix2 r q)) (fun r q => fl S146x16 (V (Proc.devRef .tc main_arg4)) (ix2 r q))
        (fun r q => fl S157x16 (V (Proc.devRef .tc main_arg5)) (ix2 r q)) ⟨(d : Nat) * 16 + h, by omega⟩ u := by
  have h40 : A8 V (Proc.devRef .tc main_v40) = A7 V (Proc.devRef .tc main_v40) :=
    StableHlo.after_of_writes_sub hostOps0_7 _ hostOps0_7_writes (by decide)
  have h43 : A8 V (Proc.devRef .tc main_v43) = A7 V (Proc.devRef .tc main_v43) :=
    StableHlo.after_of_writes_sub hostOps0_7 _ hostOps0_7_writes (by decide)
  have h31 : A8 V (Proc.devRef .tc main_v31) = A5 V (Proc.devRef .tc main_v31) :=
    (StableHlo.after_of_writes_sub hostOps0_7 _ hostOps0_7_writes (by decide)).trans
      ((StableHlo.after_of_writes_sub hostOps0_6 _ hostOps0_6_writes (by decide)).trans
        (StableHlo.after_of_writes_sub hostOps0_5 _ hostOps0_5_writes (by decide)))
  refine (v62_raw (A8 V) h u d).trans ?_
  unfold wCol
  by_cases h1 : (u : Nat) < 157
  · rw [dif_pos h1, if_pos h1, h40, v40_eq, v36_eq, v14_eq]
  rw [dif_neg h1, if_neg h1]
  by_cases h2 : (u : Nat) - 157 < 64
  · rw [dif_pos h2, if_pos h2]
    refine Finset.sum_congr rfl fun q _ => ?_
    rw [h43, v43_eq, v52_eq]
  rw [dif_neg h2, if_neg h2]
  by_cases h3 : (u : Nat) - 157 - 64 < 1
  · rw [if_pos h3, if_pos h3, h31, v31_eq, v30_eq]
  · rw [if_neg h3, if_neg h3]

end Cert.Val
-- ==== Proof.Equation.lean ====
/-
  The equation: the expanded row times the prepared weights is the embedded value plus the positional bias.
-/
module

public import proofs.«01_k».proof.Proof.Weights

@[expose] public section

set_option maxRecDepth 16384

noncomputable section

namespace Cert.Val

open Idealize.ShloMosaic
open Cert.KernelIdeal

/-- The matrix of the constants. -/
def eMat (q : Fin 16) (r : Fin 64) : EReal := Ideal.ofBits .f32 (lit6 ⟨(q : Nat) * 64 + r, by omega⟩)

theorem negBits_val : ∀ v : Nat, (v < 7 ∨ v = 127) → Ideal.ofBits .f32 (negBits v) = ((-(v : ℝ) : ℝ) : EReal) := by
  rintro v (h | rfl)
  · interval_cases v <;> simp [negBits, Ideal.ofBits, Ideal.ieee, -EReal.coe_mul, -EReal.coe_neg] <;> norm_num
  · simp [negBits, Ideal.ofBits, Ideal.ieee, -EReal.coe_mul, -EReal.coe_neg]; norm_num

theorem catN_val : ∀ r : Fin 64, (r : Nat) < 56 → catN r < 7 ∨ catN r = 127 := by decide +kernel
theorem featN_lt : ∀ r : Fin 64, featN r < 11 := by decide +kernel

/-- The category rows are told apart by feature and category. -/
theorem row_of_cat : ∀ r : Fin 64, (r : Nat) < 56 → ∀ w : Fin 8, (w : Nat) < vocabN (featN r) → catN r = w → (r : Nat) = offN (featN r) + w := by
  decide +kernel
theorem cat_of_row : ∀ f : Fin 11, ∀ w : Fin 8, (w : Nat) < vocabN f → featN (offN f + w) = f ∧ catN (offN f + w) = w := by
  decide +kernel

theorem eMat_lo (q : Fin 16) (r : Fin 64) (hr : (r : Nat) < 56) :
    eMat q r = if (q : Nat) = featN r then 1 else if (q : Nat) = 11 then ((-(catN r : ℝ) : ℝ) : EReal) else 0 := by
  unfold eMat
  rw [lit6_lo q r hr]
  split
  · exact ofBits_one
  split
  · exact negBits_val _ (catN_val r hr)
  · exact Ideal.ofBits_zero .f32

theorem sitofp_small : ∀ c : Nat, c < 8 → FloatOps.sitofp (F := Ideal) .f32 (BitVec.ofNat 32 c) = ((c : ℝ) : EReal) := by
  intro c hc
  show (((BitVec.ofNat 32 c).toInt : ℝ) : EReal) = _
  have h : (BitVec.ofNat 32 c).toInt = (c : Int) := by
    rw [BitVec.toInt_eq_toNat_of_lt] <;> simp only [BitVec.toNat_ofNat] <;> omega
  rw [h]
  norm_cast

variable (x : Fin 157 → EReal)

/-- A state's row is at distance zero exactly when the input holds its category. -/
theorem dist_iff (hx : GoodRow x) (r : Fin 64) (hr : (r : Nat) < 56) :
    distE x eMat r = 0 ↔ catOf (x ⟨featN r, by have := featN_lt r; omega⟩) = catN r := by
  have hf := featN_lt r
  have hc : catOf (x ⟨featN r, by omega⟩) < 8 := lt_trans (hx.cat ⟨featN r, by omega⟩ hf) (vocab_le ⟨featN r, hf⟩)
  have e : distE x eMat r = (((catOf (x ⟨featN r, by omega⟩) : ℝ) + -(catN r : ℝ) : ℝ) : EReal) := by
    unfold distE
    rw [EReal.coe_add]
    congr 1
    · rw [Finset.sum_eq_single (⟨featN r, hf⟩ : Fin 11)]
      · rw [eMat_lo _ r hr, if_pos rfl, mul_one, catOf_eq, sitofp_small _ hc]
      · intro q _ hq
        rw [eMat_lo _ r hr, if_neg (fun h => hq (Fin.ext h)), if_neg (by show (q : Nat) ≠ 11; omega), mul_zero]
      · exact fun h => absurd (Finset.mem_univ _) h
    · rw [Finset.sum_eq_single (0 : Fin 5)]
      · rw [eMat_lo _ r hr, if_neg (by show 11 + 0 ≠ featN r; omega)]
        exact if_pos rfl
      · intro q _ hq
        have : (q : Nat) ≠ 0 := fun h => hq (Fin.ext h)
        rw [eMat_lo _ r hr, if_neg (by show 11 + (q : Nat) ≠ featN r; omega), if_neg (by show 11 + (q : Nat) ≠ 11; omega)]
      · exact fun h => absurd (Finset.mem_univ _) h
  rw [e]
  constructor
  · intro h
    have h' : (catOf (x ⟨featN r, by omega⟩) : ℝ) + -(catN r : ℝ) = 0 := by exact_mod_cast h
    have h'' : (catOf (x ⟨featN r, by omega⟩) : ℝ) = (catN r : ℝ) := by linarith
    exact_mod_cast h''
  · intro h
    rw [h, add_neg_cancel]; rfl

/-- The parts of a sum over the expanded row. -/
theorem sum224 (f : Fin 224 → EReal) : ∑ u : Fin 224, f u
    = (∑ u : Fin 157, f ⟨u, by omega⟩) + ((∑ r : Fin 64, f ⟨157 + r, by omega⟩) + (f ⟨221, by omega⟩ + (f ⟨222, by omega⟩ + f ⟨223, by omega⟩))) := by
  have h1 := Fin.sum_univ_add (a := 157) (b := 67) f
  have h2 := Fin.sum_univ_add (a := 64) (b := 3) fun i : Fin 67 => f (Fin.natAdd 157 i)
  refine h1.trans (congrArg₂ (· + ·) rfl (h2.trans (congrArg₂ (· + ·) rfl ?_)))
  rw [Fin.sum_univ_three, add_assoc]
  rfl

variable (T : Fin 45 → Fin 16 → EReal) (N : Fin 16 → EReal) (W B : Fin 146 → Fin 16 → EReal) (P : Fin 157 → Fin 16 → EReal)
  (k : Fin 2512)

/-- The part of the row itself. -/
theorem part_row : ∑ u : Fin 157, uAt x eMat ⟨u, by omega⟩ * wCol T N W B P k ⟨u, by omega⟩
    = x ⟨k % 157, by omega⟩ * (if 11 ≤ (k : Nat) % 157 then W ⟨k % 157 - 11, by omega⟩ ⟨k / 157, by omega⟩ else 0) := by
  rw [Finset.sum_eq_single (⟨k % 157, by omega⟩ : Fin 157)]
  · unfold uAt wCol
    rw [dif_pos (by show (k : Nat) % 157 < 157; omega), if_pos (by show (k : Nat) % 157 < 157; omega), if_pos rfl, one_mul]
  · intro u _ hu
    unfold wCol
    rw [if_pos u.isLt, if_neg (fun h => hu (Fin.ext h)), zero_mul, mul_zero]
  · exact fun h => absurd (Finset.mem_univ _) h

/-- One state's weight at position `k`. -/
theorem state_weight (r : Fin 64) : wCol T N W B P k ⟨157 + r, by omega⟩
    = if (r : Nat) < 56 ∧ (k : Nat) % 157 = featN r then
        (if h : (r : Nat) < 45 then T ⟨r, h⟩ ⟨k / 157, by omega⟩ else if (r : Nat) - 45 < 11 then N ⟨k / 157, by omega⟩ else 0) else 0 := by
  have hf := featN_lt r
  have er : 157 + (r : Nat) - 157 = r := by omega
  unfold wCol
  simp only [er]
  rw [if_neg (by omega), if_pos r.isLt]
  by_cases h : (r : Nat) < 56 ∧ (k : Nat) % 157 = featN r
  · rw [if_pos h, Finset.sum_eq_single (⟨k / 157, by omega⟩ : Fin 16)]
    · have hk : (r : Nat) < 56 ∧ (k : Nat) = 157 * ((⟨k / 157, by omega⟩ : Fin 16) : Nat) + featN r :=
        ⟨h.1, by show (k : Nat) = 157 * ((k : Nat) / 157) + featN r; omega⟩
      rw [if_pos hk, mul_one]
    · intro q _ hq
      have hk : ¬((r : Nat) < 56 ∧ (k : Nat) = 157 * (q : Nat) + featN r) := by
        rintro ⟨_, h2⟩
        exact hq (Fin.ext (by show (q : Nat) = (k : Nat) / 157; omega))
      rw [if_neg hk, mul_zero]
    · exact fun h => absurd (Finset.mem_univ _) h
  · rw [if_neg h]
    refine Finset.sum_eq_zero fun q _ => ?_
    have hk : ¬((r : Nat) < 56 ∧ (k : Nat) = 157 * (q : Nat) + featN r) := by
      rintro ⟨h1, h2⟩
      exact h ⟨h1, by omega⟩
    rw [if_neg hk, mul_zero]

/-- The part of the states: the table's row of a categorical feature, nothing for a continuous one. -/
theorem part_state (hx : GoodRow x) : ∑ r : Fin 64, uAt x eMat ⟨157 + r, by omega⟩ * wCol T N W B P k ⟨157 + r, by omega⟩
    = if h : (k : Nat) % 157 < 11 then
        T ⟨offN (k % 157) + catOf (x ⟨k % 157, by omega⟩), off_cat _ _ h (hx.cat ⟨k % 157, by omega⟩ h)⟩ ⟨k / 157, by omega⟩ else 0 := by
  have hu (r : Fin 64) : uAt x eMat ⟨157 + r, by omega⟩ = if distE x eMat r = 0 then 1 else 0 := by
    have er : 157 + (r : Nat) - 157 = r := by omega
    unfold uAt
    simp only [er]
    rw [dif_neg (by omega), dif_pos r.isLt]
  by_cases h : (k : Nat) % 157 < 11
  · have hc := hx.cat ⟨k % 157, by omega⟩ h
    have h8 := vocab_le ⟨k % 157, h⟩
    have ho := off_cat _ _ h hc
    have hrow := cat_of_row ⟨k % 157, h⟩ ⟨catOf (x ⟨k % 157, by omega⟩), lt_trans hc h8⟩ hc
    rw [dif_pos h, Finset.sum_eq_single (⟨offN (k % 157) + catOf (x ⟨k % 157, by omega⟩), by omega⟩ : Fin 64)]
    · have hd : distE x eMat ⟨offN (k % 157) + catOf (x ⟨k % 157, by omega⟩), by omega⟩ = 0 := by
        refine (dist_iff x hx _ (by show offN (k % 157) + catOf (x ⟨k % 157, _⟩) < 56; omega)).2 ?_
        refine Eq.trans ?_ hrow.2.symm
        exact congrArg (fun a => catOf (x a)) (Fin.ext hrow.1)
      rw [hu, if_pos hd, one_mul, state_weight,
        if_pos ⟨by show offN (k % 157) + catOf (x ⟨k % 157, _⟩) < 56; omega, hrow.1.symm⟩, dif_pos ho]
    · intro r _ hr
      rw [hu, state_weight]
      by_cases hw : (r : Nat) < 56 ∧ (k : Nat) % 157 = featN r
      · rw [if_neg, zero_mul]
        intro hd
        have h1 := (dist_iff x hx r hw.1).1 hd
        have e : (⟨featN r, by have := featN_lt r; omega⟩ : Fin 157) = ⟨k % 157, by omega⟩ := Fin.ext hw.2.symm
        rw [e] at h1
        have h2 := row_of_cat r hw.1 ⟨catOf (x ⟨k % 157, by omega⟩), lt_trans hc h8⟩ (by rw [← hw.2]; exact hc) h1.symm
        rw [← hw.2] at h2
        exact hr (Fin.ext h2)
      · rw [if_neg hw, mul_zero]
    · exact fun h => absurd (Finset.mem_univ _) h
  · rw [dif_neg h]
    refine Finset.sum_eq_zero fun r _ => ?_
    have := featN_lt r
    rw [state_weight, if_neg (by rintro ⟨_, h2⟩; omega), mul_zero]

/-- The expanded row times the weights of position `k`. -/
theorem sum_eq (hx : GoodRow x) : ∑ u : Fin 224, uAt x eMat u * wCol T N W B P k u
    = embed x T W B ⟨k % 157, by omega⟩ ⟨k / 157, by omega⟩ + P ⟨k / 16, by omega⟩ ⟨k % 16, by omega⟩ := by
  have hone : uAt x eMat ⟨221, by omega⟩ * wCol T N W B P k ⟨221, by omega⟩
      = P ⟨k / 16, by omega⟩ ⟨k % 16, by omega⟩ + (if 11 ≤ (k : Nat) % 157 then B ⟨k % 157 - 11, by omega⟩ ⟨k / 157, by omega⟩ else 0) := by
    unfold uAt wCol
    rw [dif_neg (by decide), dif_neg (by decide), if_pos (by decide), if_neg (by decide), if_neg (by decide), if_pos (by decide), one_mul]
  have h222 : uAt x eMat ⟨222, by omega⟩ * wCol T N W B P k ⟨222, by omega⟩ = 0 := by
    unfold uAt
    rw [dif_neg (by decide), dif_neg (by decide), if_neg (by decide), zero_mul]
  have h223 : uAt x eMat ⟨223, by omega⟩ * wCol T N W B P k ⟨223, by omega⟩ = 0 := by
    unfold uAt
    rw [dif_neg (by decide), dif_neg (by decide), if_neg (by decide), zero_mul]
  rw [sum224, part_row, part_state x T N W B P k hx, hone, h222, h223]
  by_cases h : (k : Nat) % 157 < 11
  · rw [dif_pos h, if_neg (by omega), if_neg (by omega), embed_cat x T W B hx _ _ h]
    simp only [mul_zero, zero_add, add_zero]
  · rw [dif_neg h, if_pos (by omega), if_pos (by omega)]
    unfold embed
    rw [dif_neg h]
    simp only [zero_add, add_zero]
    rw [add_assoc, add_comm (P _ _)]

end Cert.Val
-- ==== Proof.Reg0.lean ====
/-
  Region 0's result array after the region, as one function of the arrays the region finds.
-/
module

public import proofs.«01_k».proof.Proof.Block
public import Idealize.ShloMosaic.Lib.Pipeline.ValueKit

@[expose] public section

set_option maxRecDepth 16384

noncomputable section

namespace Cert.Val.R0

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The windows' index maps, at every point. -/
theorem idx : ∀ t : Fin cfg0.N, win0_0.index t = ![t.val, 0, 0] ∧ win0_1.index t = ![0, 0] ∧ win0_2.index t = ![0, 0, 0]
    ∧ win0_3.index t = ![t.val, 0, 0] :=
  (by decide +kernel : ∀ t : Fin grid0.N, _)

theorem lt_N (t : Fin cfg0.N) : t.val < 8 := t.isLt.trans_eq N_0

theorem blk0 (c : Dev nD) (t : Fin cfg0.N) (a : Fin 64) (b : Fin 4) (d : Fin 157) :
    iblk0 V c 0 t (ix3 a b d) = (V c main_v63 : FVec Ideal S512x4x157 .f32) (ix3 ⟨t.val * 64 + a, by have := lt_N t; omega⟩ b d) := by
  blk_ext [iblk0, idx t]

theorem blk1 (c : Dev nD) (t : Fin cfg0.N) (a : Fin 16) (b : Fin 64) :
    iblk0 V c 1 t (ix2 a b) = (V c main_cst : FVec Ideal S16x64 .f32) (ix2 a b) := by
  blk_ext [iblk0, idx t]

theorem blk2 (c : Dev nD) (t : Fin cfg0.N) (a : Fin 16) (b : Fin 224) (d : Fin 157) :
    iblk0 V c 2 t (ix3 a b d) = (V c main_v62 : FVec Ideal S16x224x157 .f32) (ix3 a b d) := by
  blk_ext [iblk0, idx t]

theorem emb3 (t : Fin cfg0.N) (a : Fin 256) (b : Fin 157) (d : Fin 16) :
    (((cfg0.win 3).blk t).view.emb (ix3 a b d) : S2048x157x16.Idx) = ix3 ⟨t.val * 256 + a, by have := lt_N t; omega⟩ b d := by
  blk_ext [idx t]

/-- What a point stores at a block index is the whole-array function where that index sits. -/
theorem point (c : Dev nD) (t : Fin cfg0.N) (y) :
    out0_3 (iblk0 V c 0 t) (iblk0 V c 1 t) (iblk0 V c 2 t) y
      = regionOut (V c main_v63) (V c main_cst) (V c main_v62) (((cfg0.win 3).blk t).view.emb y) := by
  idx_vars y
  refine (out_apply _ _ _ _ _ _).trans ((?_ : _ = regionOut _ _ _ (ix3 _ _ _)).trans (congrArg (regionOut _ _ _) (emb3 t _ _ _).symm))
  refine rowOut_congr (fun d => ?_) (fun q k => blk1 V c t q k) (fun u => blk2 V c t _ u _)
  refine (blk0 V c t _ _ d).trans (congrArg _ (congrArg₂ (fun a b => ix3 a b d) (Fin.ext ?_) (Fin.ext ?_)))
  · show t.val * 64 + (y0 : Nat) / 4 = (t.val * 256 + (y0 : Nat)) / 4; omega
  · show (y0 : Nat) % 4 = (t.val * 256 + (y0 : Nat)) % 4; omega

/-- The result array after the region. -/
theorem final (c : Dev nD) : (dat0 V c).arrAt 3 cfg0.N = regionOut (V c main_v63) (V c main_cst) (V c main_v62) := by
  refine (dat0 V c).arrAt_eq_of_covers 3 _ (by decide +kernel) fun t _ y => ?_
  blk_simp
  rw [after0_3]
  exact point V c t y

end Cert.Val.R0
-- ==== Proof.Reg1.lean ====
/-
  Region 1's result array after the region, as one function of the arrays the region finds.
-/
module

public import proofs.«01_k».proof.Proof.Block
public import proofs.«01_k».proof.Proof.Gen.KernelIdeal.Frame.Region1
public import Idealize.ShloMosaic.Lib.Pipeline.ValueKit

@[expose] public section

set_option maxRecDepth 16384

noncomputable section

namespace Cert.Val.R1

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The windows' index maps, at every point. -/
theorem idx : ∀ t : Fin cfg1.N, win1_0.index t = ![t.val, 0, 0] ∧ win1_1.index t = ![0, 0] ∧ win1_2.index t = ![0, 0, 0]
    ∧ win1_3.index t = ![t.val, 0, 0] :=
  (by decide +kernel : ∀ t : Fin grid1.N, _)

/-- The region's body is region 0's. -/
theorem out_eq (x0 : Vec Ideal S64x4x157 .f32) (x1 : Vec Ideal S16x64 .f32) (x2 : Vec Ideal S16x224x157 .f32) :
    out1_3 (F := Ideal) x0 x1 x2 = out0_3 x0 x1 x2 := rfl

theorem lt_N (t : Fin cfg1.N) : t.val < 8 := t.isLt.trans_eq N_1

theorem blk0 (c : Dev nD) (t : Fin cfg1.N) (a : Fin 64) (b : Fin 4) (d : Fin 157) :
    iblk1 V c 0 t (ix3 a b d) = (V c main_v66 : FVec Ideal S512x4x157 .f32) (ix3 ⟨t.val * 64 + a, by have := lt_N t; omega⟩ b d) := by
  blk_ext [iblk1, idx t]

theorem blk1 (c : Dev nD) (t : Fin cfg1.N) (a : Fin 16) (b : Fin 64) :
    iblk1 V c 1 t (ix2 a b) = (V c main_cst : FVec Ideal S16x64 .f32) (ix2 a b) := by
  blk_ext [iblk1, idx t]

theorem blk2 (c : Dev nD) (t : Fin cfg1.N) (a : Fin 16) (b : Fin 224) (d : Fin 157) :
    iblk1 V c 2 t (ix3 a b d) = (V c main_v62 : FVec Ideal S16x224x157 .f32) (ix3 a b d) := by
  blk_ext [iblk1, idx t]

theorem emb3 (t : Fin cfg1.N) (a : Fin 256) (b : Fin 157) (d : Fin 16) :
    (((cfg1.win 3).blk t).view.emb (ix3 a b d) : S2048x157x16.Idx) = ix3 ⟨t.val * 256 + a, by have := lt_N t; omega⟩ b d := by
  blk_ext [idx t]

/-- What a point stores at a block index is the whole-array function where that index sits. -/
theorem point (c : Dev nD) (t : Fin cfg1.N) (y) :
    out0_3 (iblk1 V c 0 t) (iblk1 V c 1 t) (iblk1 V c 2 t) y
      = regionOut (V c main_v66) (V c main_cst) (V c main_v62) (((cfg1.win 3).blk t).view.emb y) := by
  idx_vars y
  refine (out_apply _ _ _ _ _ _).trans ((?_ : _ = regionOut _ _ _ (ix3 _ _ _)).trans (congrArg (regionOut _ _ _) (emb3 t _ _ _).symm))
  refine rowOut_congr (fun d => ?_) (fun q k => blk1 V c t q k) (fun u => blk2 V c t _ u _)
  refine (blk0 V c t _ _ d).trans (congrArg _ (congrArg₂ (fun a b => ix3 a b d) (Fin.ext ?_) (Fin.ext ?_)))
  · show t.val * 64 + (y0 : Nat) / 4 = (t.val * 256 + (y0 : Nat)) / 4; omega
  · show (y0 : Nat) % 4 = (t.val * 256 + (y0 : Nat)) % 4; omega

/-- The result array after the region. -/
theorem final (c : Dev nD) : (dat1 V c).arrAt 3 cfg1.N = regionOut (V c main_v66) (V c main_cst) (V c main_v62) := by
  refine (dat1 V c).arrAt_eq_of_covers 3 _ (by decide +kernel) fun t _ y => ?_
  blk_simp
  rw [after1_3, out_eq]
  exact point V c t y

end Cert.Val.R1
-- ==== Proof.Reg2.lean ====
/-
  Region 2's result array after the region, as one function of the arrays the region finds.
-/
module

public import proofs.«01_k».proof.Proof.Block
public import proofs.«01_k».proof.Proof.Gen.KernelIdeal.Frame.Region2
public import Idealize.ShloMosaic.Lib.Pipeline.ValueKit

@[expose] public section

set_option maxRecDepth 16384

noncomputable section

namespace Cert.Val.R2

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The windows' index maps, at every point. -/
theorem idx : ∀ t : Fin cfg2.N, win2_0.index t = ![t.val, 0, 0] ∧ win2_1.index t = ![0, 0] ∧ win2_2.index t = ![0, 0, 0]
    ∧ win2_3.index t = ![t.val, 0, 0] :=
  (by decide +kernel : ∀ t : Fin grid2.N, _)

/-- The region's body is region 0's. -/
theorem out_eq (x0 : Vec Ideal S64x4x157 .f32) (x1 : Vec Ideal S16x64 .f32) (x2 : Vec Ideal S16x224x157 .f32) :
    out2_3 (F := Ideal) x0 x1 x2 = out0_3 x0 x1 x2 := rfl

theorem lt_N (t : Fin cfg2.N) : t.val < 8 := t.isLt.trans_eq N_2

theorem blk0 (c : Dev nD) (t : Fin cfg2.N) (a : Fin 64) (b : Fin 4) (d : Fin 157) :
    iblk2 V c 0 t (ix3 a b d) = (V c main_v69 : FVec Ideal S512x4x157 .f32) (ix3 ⟨t.val * 64 + a, by have := lt_N t; omega⟩ b d) := by
  blk_ext [iblk2, idx t]

theorem blk1 (c : Dev nD) (t : Fin cfg2.N) (a : Fin 16) (b : Fin 64) :
    iblk2 V c 1 t (ix2 a b) = (V c main_cst : FVec Ideal S16x64 .f32) (ix2 a b) := by
  blk_ext [iblk2, idx t]

theorem blk2 (c : Dev nD) (t : Fin cfg2.N) (a : Fin 16) (b : Fin 224) (d : Fin 157) :
    iblk2 V c 2 t (ix3 a b d) = (V c main_v62 : FVec Ideal S16x224x157 .f32) (ix3 a b d) := by
  blk_ext [iblk2, idx t]

theorem emb3 (t : Fin cfg2.N) (a : Fin 256) (b : Fin 157) (d : Fin 16) :
    (((cfg2.win 3).blk t).view.emb (ix3 a b d) : S2048x157x16.Idx) = ix3 ⟨t.val * 256 + a, by have := lt_N t; omega⟩ b d := by
  blk_ext [idx t]

/-- What a point stores at a block index is the whole-array function where that index sits. -/
theorem point (c : Dev nD) (t : Fin cfg2.N) (y) :
    out0_3 (iblk2 V c 0 t) (iblk2 V c 1 t) (iblk2 V c 2 t) y
      = regionOut (V c main_v69) (V c main_cst) (V c main_v62) (((cfg2.win 3).blk t).view.emb y) := by
  idx_vars y
  refine (out_apply _ _ _ _ _ _).trans ((?_ : _ = regionOut _ _ _ (ix3 _ _ _)).trans (congrArg (regionOut _ _ _) (emb3 t _ _ _).symm))
  refine rowOut_congr (fun d => ?_) (fun q k => blk1 V c t q k) (fun u => blk2 V c t _ u _)
  refine (blk0 V c t _ _ d).trans (congrArg _ (congrArg₂ (fun a b => ix3 a b d) (Fin.ext ?_) (Fin.ext ?_)))
  · show t.val * 64 + (y0 : Nat) / 4 = (t.val * 256 + (y0 : Nat)) / 4; omega
  · show (y0 : Nat) % 4 = (t.val * 256 + (y0 : Nat)) % 4; omega

/-- The result array after the region. -/
theorem final (c : Dev nD) : (dat2 V c).arrAt 3 cfg2.N = regionOut (V c main_v69) (V c main_cst) (V c main_v62) := by
  refine (dat2 V c).arrAt_eq_of_covers 3 _ (by decide +kernel) fun t _ y => ?_
  blk_simp
  rw [after2_3, out_eq]
  exact point V c t y

end Cert.Val.R2
-- ==== Proof.Reg3.lean ====
/-
  Region 3's result array after the region, as one function of the arrays the region finds.
-/
module

public import proofs.«01_k».proof.Proof.Block
public import proofs.«01_k».proof.Proof.Gen.KernelIdeal.Frame.Region3
public import Idealize.ShloMosaic.Lib.Pipeline.ValueKit

@[expose] public section

set_option maxRecDepth 16384

noncomputable section

namespace Cert.Val.R3

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The windows' index maps, at every point. -/
theorem idx : ∀ t : Fin cfg3.N, win3_0.index t = ![t.val, 0, 0] ∧ win3_1.index t = ![0, 0] ∧ win3_2.index t = ![0, 0, 0]
    ∧ win3_3.index t = ![t.val, 0, 0] :=
  (by decide +kernel : ∀ t : Fin grid3.N, _)

/-- The region's body is region 0's. -/
theorem out_eq (x0 : Vec Ideal S64x4x157 .f32) (x1 : Vec Ideal S16x64 .f32) (x2 : Vec Ideal S16x224x157 .f32) :
    out3_3 (F := Ideal) x0 x1 x2 = out0_3 x0 x1 x2 := rfl

theorem lt_N (t : Fin cfg3.N) : t.val < 8 := t.isLt.trans_eq N_3

theorem blk0 (c : Dev nD) (t : Fin cfg3.N) (a : Fin 64) (b : Fin 4) (d : Fin 157) :
    iblk3 V c 0 t (ix3 a b d) = (V c main_v72 : FVec Ideal S512x4x157 .f32) (ix3 ⟨t.val * 64 + a, by have := lt_N t; omega⟩ b d) := by
  blk_ext [iblk3, idx t]

theorem blk1 (c : Dev nD) (t : Fin cfg3.N) (a : Fin 16) (b : Fin 64) :
    iblk3 V c 1 t (ix2 a b) = (V c main_cst : FVec Ideal S16x64 .f32) (ix2 a b) := by
  blk_ext [iblk3, idx t]

theorem blk2 (c : Dev nD) (t : Fin cfg3.N) (a : Fin 16) (b : Fin 224) (d : Fin 157) :
    iblk3 V c 2 t (ix3 a b d) = (V c main_v62 : FVec Ideal S16x224x157 .f32) (ix3 a b d) := by
  blk_ext [iblk3, idx t]

theorem emb3 (t : Fin cfg3.N) (a : Fin 256) (b : Fin 157) (d : Fin 16) :
    (((cfg3.win 3).blk t).view.emb (ix3 a b d) : S2048x157x16.Idx) = ix3 ⟨t.val * 256 + a, by have := lt_N t; omega⟩ b d := by
  blk_ext [idx t]

/-- What a point stores at a block index is the whole-array function where that index sits. -/
theorem point (c : Dev nD) (t : Fin cfg3.N) (y) :
    out0_3 (iblk3 V c 0 t) (iblk3 V c 1 t) (iblk3 V c 2 t) y
      = regionOut (V c main_v72) (V c main_cst) (V c main_v62) (((cfg3.win 3).blk t).view.emb y) := by
  idx_vars y
  refine (out_apply _ _ _ _ _ _).trans ((?_ : _ = regionOut _ _ _ (ix3 _ _ _)).trans (congrArg (regionOut _ _ _) (emb3 t _ _ _).symm))
  refine rowOut_congr (fun d => ?_) (fun q k => blk1 V c t q k) (fun u => blk2 V c t _ u _)
  refine (blk0 V c t _ _ d).trans (congrArg _ (congrArg₂ (fun a b => ix3 a b d) (Fin.ext ?_) (Fin.ext ?_)))
  · show t.val * 64 + (y0 : Nat) / 4 = (t.val * 256 + (y0 : Nat)) / 4; omega
  · show (y0 : Nat) % 4 = (t.val * 256 + (y0 : Nat)) % 4; omega

/-- The result array after the region. -/
theorem final (c : Dev nD) : (dat3 V c).arrAt 3 cfg3.N = regionOut (V c main_v72) (V c main_cst) (V c main_v62) := by
  refine (dat3 V c).arrAt_eq_of_covers 3 _ (by decide +kernel) fun t _ y => ?_
  blk_simp
  rw [after3_3, out_eq]
  exact point V c t y

end Cert.Val.R3
-- ==== Proof.Reg4.lean ====
/-
  Region 4's result array after the region, as one function of the arrays the region finds.
-/
module

public import proofs.«01_k».proof.Proof.Block
public import proofs.«01_k».proof.Proof.Gen.KernelIdeal.Frame.Region4
public import Idealize.ShloMosaic.Lib.Pipeline.ValueKit

@[expose] public section

set_option maxRecDepth 16384

noncomputable section

namespace Cert.Val.R4

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The windows' index maps, at every point. -/
theorem idx : ∀ t : Fin cfg4.N, win4_0.index t = ![t.val, 0, 0] ∧ win4_1.index t = ![0, 0] ∧ win4_2.index t = ![0, 0, 0]
    ∧ win4_3.index t = ![t.val, 0, 0] :=
  (by decide +kernel : ∀ t : Fin grid4.N, _)

/-- The region's body is region 0's. -/
theorem out_eq (x0 : Vec Ideal S64x4x157 .f32) (x1 : Vec Ideal S16x64 .f32) (x2 : Vec Ideal S16x224x157 .f32) :
    out4_3 (F := Ideal) x0 x1 x2 = out0_3 x0 x1 x2 := rfl

theorem lt_N (t : Fin cfg4.N) : t.val < 8 := t.isLt.trans_eq N_4

theorem blk0 (c : Dev nD) (t : Fin cfg4.N) (a : Fin 64) (b : Fin 4) (d : Fin 157) :
    iblk4 V c 0 t (ix3 a b d) = (V c main_v75 : FVec Ideal S512x4x157 .f32) (ix3 ⟨t.val * 64 + a, by have := lt_N t; omega⟩ b d) := by
  blk_ext [iblk4, idx t]

theorem blk1 (c : Dev nD) (t : Fin cfg4.N) (a : Fin 16) (b : Fin 64) :
    iblk4 V c 1 t (ix2 a b) = (V c main_cst : FVec Ideal S16x64 .f32) (ix2 a b) := by
  blk_ext [iblk4, idx t]

theorem blk2 (c : Dev nD) (t : Fin cfg4.N) (a : Fin 16) (b : Fin 224) (d : Fin 157) :
    iblk4 V c 2 t (ix3 a b d) = (V c main_v62 : FVec Ideal S16x224x157 .f32) (ix3 a b d) := by
  blk_ext [iblk4, idx t]

theorem emb3 (t : Fin cfg4.N) (a : Fin 256) (b : Fin 157) (d : Fin 16) :
    (((cfg4.win 3).blk t).view.emb (ix3 a b d) : S2048x157x16.Idx) = ix3 ⟨t.val * 256 + a, by have := lt_N t; omega⟩ b d := by
  blk_ext [idx t]

/-- What a point stores at a block index is the whole-array function where that index sits. -/
theorem point (c : Dev nD) (t : Fin cfg4.N) (y) :
    out0_3 (iblk4 V c 0 t) (iblk4 V c 1 t) (iblk4 V c 2 t) y
      = regionOut (V c main_v75) (V c main_cst) (V c main_v62) (((cfg4.win 3).blk t).view.emb y) := by
  idx_vars y
  refine (out_apply _ _ _ _ _ _).trans ((?_ : _ = regionOut _ _ _ (ix3 _ _ _)).trans (congrArg (regionOut _ _ _) (emb3 t _ _ _).symm))
  refine rowOut_congr (fun d => ?_) (fun q k => blk1 V c t q k) (fun u => blk2 V c t _ u _)
  refine (blk0 V c t _ _ d).trans (congrArg _ (congrArg₂ (fun a b => ix3 a b d) (Fin.ext ?_) (Fin.ext ?_)))
  · show t.val * 64 + (y0 : Nat) / 4 = (t.val * 256 + (y0 : Nat)) / 4; omega
  · show (y0 : Nat) % 4 = (t.val * 256 + (y0 : Nat)) % 4; omega

/-- The result array after the region. -/
theorem final (c : Dev nD) : (dat4 V c).arrAt 3 cfg4.N = regionOut (V c main_v75) (V c main_cst) (V c main_v62) := by
  refine (dat4 V c).arrAt_eq_of_covers 3 _ (by decide +kernel) fun t _ y => ?_
  blk_simp
  rw [after4_3, out_eq]
  exact point V c t y

end Cert.Val.R4
-- ==== Proof.Reg5.lean ====
/-
  Region 5's result array after the region, as one function of the arrays the region finds.
-/
module

public import proofs.«01_k».proof.Proof.Block
public import proofs.«01_k».proof.Proof.Gen.KernelIdeal.Frame.Region5
public import Idealize.ShloMosaic.Lib.Pipeline.ValueKit

@[expose] public section

set_option maxRecDepth 16384

noncomputable section

namespace Cert.Val.R5

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The windows' index maps, at every point. -/
theorem idx : ∀ t : Fin cfg5.N, win5_0.index t = ![t.val, 0, 0] ∧ win5_1.index t = ![0, 0] ∧ win5_2.index t = ![0, 0, 0]
    ∧ win5_3.index t = ![t.val, 0, 0] :=
  (by decide +kernel : ∀ t : Fin grid5.N, _)

/-- The region's body is region 0's. -/
theorem out_eq (x0 : Vec Ideal S64x4x157 .f32) (x1 : Vec Ideal S16x64 .f32) (x2 : Vec Ideal S16x224x157 .f32) :
    out5_3 (F := Ideal) x0 x1 x2 = out0_3 x0 x1 x2 := rfl

theorem lt_N (t : Fin cfg5.N) : t.val < 8 := t.isLt.trans_eq N_5

theorem blk0 (c : Dev nD) (t : Fin cfg5.N) (a : Fin 64) (b : Fin 4) (d : Fin 157) :
    iblk5 V c 0 t (ix3 a b d) = (V c main_v78 : FVec Ideal S512x4x157 .f32) (ix3 ⟨t.val * 64 + a, by have := lt_N t; omega⟩ b d) := by
  blk_ext [iblk5, idx t]

theorem blk1 (c : Dev nD) (t : Fin cfg5.N) (a : Fin 16) (b : Fin 64) :
    iblk5 V c 1 t (ix2 a b) = (V c main_cst : FVec Ideal S16x64 .f32) (ix2 a b) := by
  blk_ext [iblk5, idx t]

theorem blk2 (c : Dev nD) (t : Fin cfg5.N) (a : Fin 16) (b : Fin 224) (d : Fin 157) :
    iblk5 V c 2 t (ix3 a b d) = (V c main_v62 : FVec Ideal S16x224x157 .f32) (ix3 a b d) := by
  blk_ext [iblk5, idx t]

theorem emb3 (t : Fin cfg5.N) (a : Fin 256) (b : Fin 157) (d : Fin 16) :
    (((cfg5.win 3).blk t).view.emb (ix3 a b d) : S2048x157x16.Idx) = ix3 ⟨t.val * 256 + a, by have := lt_N t; omega⟩ b d := by
  blk_ext [idx t]

/-- What a point stores at a block index is the whole-array function where that index sits. -/
theorem point (c : Dev nD) (t : Fin cfg5.N) (y) :
    out0_3 (iblk5 V c 0 t) (iblk5 V c 1 t) (iblk5 V c 2 t) y
      = regionOut (V c main_v78) (V c main_cst) (V c main_v62) (((cfg5.win 3).blk t).view.emb y) := by
  idx_vars y
  refine (out_apply _ _ _ _ _ _).trans ((?_ : _ = regionOut _ _ _ (ix3 _ _ _)).trans (congrArg (regionOut _ _ _) (emb3 t _ _ _).symm))
  refine rowOut_congr (fun d => ?_) (fun q k => blk1 V c t q k) (fun u => blk2 V c t _ u _)
  refine (blk0 V c t _ _ d).trans (congrArg _ (congrArg₂ (fun a b => ix3 a b d) (Fin.ext ?_) (Fin.ext ?_)))
  · show t.val * 64 + (y0 : Nat) / 4 = (t.val * 256 + (y0 : Nat)) / 4; omega
  · show (y0 : Nat) % 4 = (t.val * 256 + (y0 : Nat)) % 4; omega

/-- The result array after the region. -/
theorem final (c : Dev nD) : (dat5 V c).arrAt 3 cfg5.N = regionOut (V c main_v78) (V c main_cst) (V c main_v62) := by
  refine (dat5 V c).arrAt_eq_of_covers 3 _ (by decide +kernel) fun t _ y => ?_
  blk_simp
  rw [after5_3, out_eq]
  exact point V c t y

end Cert.Val.R5
-- ==== Proof.Reg6.lean ====
/-
  Region 6's result array after the region, as one function of the arrays the region finds.
-/
module

public import proofs.«01_k».proof.Proof.Block
public import proofs.«01_k».proof.Proof.Gen.KernelIdeal.Frame.Region6
public import Idealize.ShloMosaic.Lib.Pipeline.ValueKit

@[expose] public section

set_option maxRecDepth 16384

noncomputable section

namespace Cert.Val.R6

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The windows' index maps, at every point. -/
theorem idx : ∀ t : Fin cfg6.N, win6_0.index t = ![t.val, 0, 0] ∧ win6_1.index t = ![0, 0] ∧ win6_2.index t = ![0, 0, 0]
    ∧ win6_3.index t = ![t.val, 0, 0] :=
  (by decide +kernel : ∀ t : Fin grid6.N, _)

/-- The region's body is region 0's. -/
theorem out_eq (x0 : Vec Ideal S64x4x157 .f32) (x1 : Vec Ideal S16x64 .f32) (x2 : Vec Ideal S16x224x157 .f32) :
    out6_3 (F := Ideal) x0 x1 x2 = out0_3 x0 x1 x2 := rfl

theorem lt_N (t : Fin cfg6.N) : t.val < 8 := t.isLt.trans_eq N_6

theorem blk0 (c : Dev nD) (t : Fin cfg6.N) (a : Fin 64) (b : Fin 4) (d : Fin 157) :
    iblk6 V c 0 t (ix3 a b d) = (V c main_v81 : FVec Ideal S512x4x157 .f32) (ix3 ⟨t.val * 64 + a, by have := lt_N t; omega⟩ b d) := by
  blk_ext [iblk6, idx t]

theorem blk1 (c : Dev nD) (t : Fin cfg6.N) (a : Fin 16) (b : Fin 64) :
    iblk6 V c 1 t (ix2 a b) = (V c main_cst : FVec Ideal S16x64 .f32) (ix2 a b) := by
  blk_ext [iblk6, idx t]

theorem blk2 (c : Dev nD) (t : Fin cfg6.N) (a : Fin 16) (b : Fin 224) (d : Fin 157) :
    iblk6 V c 2 t (ix3 a b d) = (V c main_v62 : FVec Ideal S16x224x157 .f32) (ix3 a b d) := by
  blk_ext [iblk6, idx t]

theorem emb3 (t : Fin cfg6.N) (a : Fin 256) (b : Fin 157) (d : Fin 16) :
    (((cfg6.win 3).blk t).view.emb (ix3 a b d) : S2048x157x16.Idx) = ix3 ⟨t.val * 256 + a, by have := lt_N t; omega⟩ b d := by
  blk_ext [idx t]

/-- What a point stores at a block index is the whole-array function where that index sits. -/
theorem point (c : Dev nD) (t : Fin cfg6.N) (y) :
    out0_3 (iblk6 V c 0 t) (iblk6 V c 1 t) (iblk6 V c 2 t) y
      = regionOut (V c main_v81) (V c main_cst) (V c main_v62) (((cfg6.win 3).blk t).view.emb y) := by
  idx_vars y
  refine (out_apply _ _ _ _ _ _).trans ((?_ : _ = regionOut _ _ _ (ix3 _ _ _)).trans (congrArg (regionOut _ _ _) (emb3 t _ _ _).symm))
  refine rowOut_congr (fun d => ?_) (fun q k => blk1 V c t q k) (fun u => blk2 V c t _ u _)
  refine (blk0 V c t _ _ d).trans (congrArg _ (congrArg₂ (fun a b => ix3 a b d) (Fin.ext ?_) (Fin.ext ?_)))
  · show t.val * 64 + (y0 : Nat) / 4 = (t.val * 256 + (y0 : Nat)) / 4; omega
  · show (y0 : Nat) % 4 = (t.val * 256 + (y0 : Nat)) % 4; omega

/-- The result array after the region. -/
theorem final (c : Dev nD) : (dat6 V c).arrAt 3 cfg6.N = regionOut (V c main_v81) (V c main_cst) (V c main_v62) := by
  refine (dat6 V c).arrAt_eq_of_covers 3 _ (by decide +kernel) fun t _ y => ?_
  blk_simp
  rw [after6_3, out_eq]
  exact point V c t y

end Cert.Val.R6
-- ==== Proof.Reg7.lean ====
/-
  Region 7's result array after the region, as one function of the arrays the region finds.
-/
module

public import proofs.«01_k».proof.Proof.Block
public import proofs.«01_k».proof.Proof.Gen.KernelIdeal.Frame.Region7
public import Idealize.ShloMosaic.Lib.Pipeline.ValueKit

@[expose] public section

set_option maxRecDepth 16384

noncomputable section

namespace Cert.Val.R7

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The windows' index maps, at every point. -/
theorem idx : ∀ t : Fin cfg7.N, win7_0.index t = ![t.val, 0, 0] ∧ win7_1.index t = ![0, 0] ∧ win7_2.index t = ![0, 0, 0]
    ∧ win7_3.index t = ![t.val, 0, 0] :=
  (by decide +kernel : ∀ t : Fin grid7.N, _)

/-- The region's body is region 0's. -/
theorem out_eq (x0 : Vec Ideal S64x4x157 .f32) (x1 : Vec Ideal S16x64 .f32) (x2 : Vec Ideal S16x224x157 .f32) :
    out7_3 (F := Ideal) x0 x1 x2 = out0_3 x0 x1 x2 := rfl

theorem lt_N (t : Fin cfg7.N) : t.val < 8 := t.isLt.trans_eq N_7

theorem blk0 (c : Dev nD) (t : Fin cfg7.N) (a : Fin 64) (b : Fin 4) (d : Fin 157) :
    iblk7 V c 0 t (ix3 a b d) = (V c main_v84 : FVec Ideal S512x4x157 .f32) (ix3 ⟨t.val * 64 + a, by have := lt_N t; omega⟩ b d) := by
  blk_ext [iblk7, idx t]

theorem blk1 (c : Dev nD) (t : Fin cfg7.N) (a : Fin 16) (b : Fin 64) :
    iblk7 V c 1 t (ix2 a b) = (V c main_cst : FVec Ideal S16x64 .f32) (ix2 a b) := by
  blk_ext [iblk7, idx t]

theorem blk2 (c : Dev nD) (t : Fin cfg7.N) (a : Fin 16) (b : Fin 224) (d : Fin 157) :
    iblk7 V c 2 t (ix3 a b d) = (V c main_v62 : FVec Ideal S16x224x157 .f32) (ix3 a b d) := by
  blk_ext [iblk7, idx t]

theorem emb3 (t : Fin cfg7.N) (a : Fin 256) (b : Fin 157) (d : Fin 16) :
    (((cfg7.win 3).blk t).view.emb (ix3 a b d) : S2048x157x16.Idx) = ix3 ⟨t.val * 256 + a, by have := lt_N t; omega⟩ b d := by
  blk_ext [idx t]

/-- What a point stores at a block index is the whole-array function where that index sits. -/
theorem point (c : Dev nD) (t : Fin cfg7.N) (y) :
    out0_3 (iblk7 V c 0 t) (iblk7 V c 1 t) (iblk7 V c 2 t) y
      = regionOut (V c main_v84) (V c main_cst) (V c main_v62) (((cfg7.win 3).blk t).view.emb y) := by
  idx_vars y
  refine (out_apply _ _ _ _ _ _).trans ((?_ : _ = regionOut _ _ _ (ix3 _ _ _)).trans (congrArg (regionOut _ _ _) (emb3 t _ _ _).symm))
  refine rowOut_congr (fun d => ?_) (fun q k => blk1 V c t q k) (fun u => blk2 V c t _ u _)
  refine (blk0 V c t _ _ d).trans (congrArg _ (congrArg₂ (fun a b => ix3 a b d) (Fin.ext ?_) (Fin.ext ?_)))
  · show t.val * 64 + (y0 : Nat) / 4 = (t.val * 256 + (y0 : Nat)) / 4; omega
  · show (y0 : Nat) % 4 = (t.val * 256 + (y0 : Nat)) % 4; omega

/-- The result array after the region. -/
theorem final (c : Dev nD) : (dat7 V c).arrAt 3 cfg7.N = regionOut (V c main_v84) (V c main_cst) (V c main_v62) := by
  refine (dat7 V c).arrAt_eq_of_covers 3 _ (by decide +kernel) fun t _ y => ?_
  blk_simp
  rw [after7_3, out_eq]
  exact point V c t y

end Cert.Val.R7
-- ==== Proof.Out.lean ====
/-
  The kernel's result, read at an index from the arrays it was launched with.
-/
module

public import proofs.«01_k».proof.Proof.Weights
public import proofs.«01_k».proof.Proof.Equation
public import proofs.«01_k».proof.Proof.Reg0
public import proofs.«01_k».proof.Proof.Reg1
public import proofs.«01_k».proof.Proof.Reg2
public import proofs.«01_k».proof.Proof.Reg3
public import proofs.«01_k».proof.Proof.Reg4
public import proofs.«01_k».proof.Proof.Reg5
public import proofs.«01_k».proof.Proof.Reg6
public import proofs.«01_k».proof.Proof.Reg7
public import proofs.«01_k».proof.Proof.Gen.KernelIdeal.Frame.Fold0
public import Idealize.ShloMosaic.Lib.Pointwise
public import Idealize.ShloMosaic.Lib.StableHlo.RunRead

@[expose] public section

set_option maxRecDepth 16384

noncomputable section

namespace Cert.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The arguments at launch, by index. -/
def inX (b : Fin 4096) (s : Fin 4) (d : Fin 157) : EReal := fl S4096x4x157 (m ((c : Thread nD τ).loc main_arg0)) (ix3 b s d)
def inT (r : Fin 45) (q : Fin 16) : EReal := fl S45x16 (m ((c : Thread nD τ).loc main_arg1)) (ix2 r q)
def inN (q : Fin 16) : EReal := fl S1x16 (m ((c : Thread nD τ).loc main_arg2)) (ix2 0 q)
def inW (r : Fin 146) (q : Fin 16) : EReal := fl S146x16 (m ((c : Thread nD τ).loc main_arg3)) (ix2 r q)
def inB (r : Fin 146) (q : Fin 16) : EReal := fl S146x16 (m ((c : Thread nD τ).loc main_arg4)) (ix2 r q)
def inP (r : Fin 157) (q : Fin 16) : EReal := fl S157x16 (m ((c : Thread nD τ).loc main_arg5)) (ix2 r q)

/-- One result element: row `(b, s)`, position `d * 16 + h`. -/
def outAt (b : Fin 4096) (s : Fin 4) (d : Fin 157) (h : Fin 16) : EReal :=
  rowOut (inX m c b s) eMat (wCol (inT m c) (inN m c) (inW m c) (inB m c) (inP m c) ⟨(d : Nat) * 16 + h, by omega⟩)

theorem w9_cst (q : Fin 16) (r : Fin 64) : fl S16x64 (W9 m ρ c (Proc.devRef .tc main_cst)) (ix2 q r) = eMat q r :=
  cst_eq (W0 m ρ c) q r

theorem w9_v62 (h : Fin 16) (u : Fin 224) (d : Fin 157) : fl S16x224x157 (W9 m ρ c (Proc.devRef .tc main_v62)) (ix3 h u d)
    = wCol (inT m c) (inN m c) (inW m c) (inB m c) (inP m c) ⟨(d : Nat) * 16 + h, by omega⟩ u :=
  v62_eq (W0 m ρ c) h u d

/-- A region's result at a row and position, from what its arrays hold. -/
theorem region_at (o : Fin 4096) (X : FVec Ideal S512x4x157 .f32) (E : FVec Ideal S16x64 .f32) (K : FVec Ideal S16x224x157 .f32)
    (b : Fin 512) (s : Fin 4) (d : Fin 157) (h : Fin 16)
    (hX : ∀ d', fl S512x4x157 X (ix3 b s d') = inX m c o s d')
    (hE : E = W9 m ρ c (Proc.devRef .tc main_cst)) (hK : K = W9 m ρ c (Proc.devRef .tc main_v62)) :
    fl S2048x157x16 (regionOut X E K) (ix3 ⟨(b : Nat) * 4 + s, by omega⟩ d h) = outAt m c o s d h := by
  subst hE hK
  unfold outAt
  refine (?_ : _ = _).trans (rowOut_congr (fun d' => hX d') (fun q k => w9_cst m ρ c q k) (fun u => w9_v62 m ρ c h u d))
  show rowOut _ _ _ = _
  refine rowOut_congr (fun d' => congrArg X (congrArg₂ (fun a e => ix3 a e d') (Fin.ext ?_) (Fin.ext ?_))) (fun _ _ => rfl) (fun _ => rfl)
  · show ((b : Nat) * 4 + s) / 4 = b; omega
  · show ((b : Nat) * 4 + s) % 4 = s; omega

/-- A region's result regrouped by row. -/
theorem regroup (f : FVec Ideal S2048x157x16 .f32) (b : Fin 512) (s : Fin 4) (d : Fin 157) (h : Fin 16) :
    fl S512x4x157x16 (shapeCast S512x4x157x16 f shapeCasts_S2048x157x16_S512x4x157x16) (ix4 b s d h)
      = fl S2048x157x16 f (ix3 ⟨(b : Nat) * 4 + s, by omega⟩ d h) := by
  pointwise
  first | done | rfl | (refine congrArg f ?_; congr 1)

theorem slice0 (V : Valuation τ sig (Elt Ideal)) (b : Fin 512) (s : Fin 4) (d : Fin 157) :
    fl S512x4x157 (StableHlo.after hostOps0_8 V (Proc.devRef .tc main_v63)) (ix3 b s d)
      = fl S4096x4x157 (V (Proc.devRef .tc main_arg0)) (ix3 ⟨0 + (b : Nat), by omega⟩ s d) := by
  after_reads_simp
  pointwise

/-- The rows region 0 reads are rows 0 to 511 of the first argument. -/
theorem rows0 (b : Fin 512) (s : Fin 4) (d : Fin 157) : fl S512x4x157 (W9 m ρ c (Proc.devRef .tc main_v63)) (ix3 b s d)
    = inX m c ⟨0 + (b : Nat), by omega⟩ s d := by
  refine (slice0 (W8 m ρ c) b s d).trans ?_
  unfold inX
  rw [W8_args m ρ c main_arg0 (by decide)]

/-- What region 0 leaves, regrouped. -/
theorem part0 (b : Fin 512) (s : Fin 4) (d : Fin 157) (h : Fin 16) :
    fl S512x4x157x16 (shapeCast S512x4x157x16 (W10 m ρ c (Proc.devRef .tc main_v64)) shapeCasts_S2048x157x16_S512x4x157x16) (ix4 b s d h)
      = outAt m c ⟨0 + (b : Nat), by omega⟩ s d h := by
  have e : W10 m ρ c (Proc.devRef .tc main_v64) = _ := (W10_arr m ρ c 3).trans (R0.final (V9 m ρ) c)
  rw [e]
  refine (regroup _ b s d h).trans (region_at m ρ c _ _ _ _ b s d h (fun d' => rows0 m ρ c b s d') ?_ ?_)
  · exact rfl
  · exact rfl

theorem group0 (V : Valuation τ sig (Elt Ideal)) : fl S512x4x157x16 (StableHlo.after hostOps1 V (Proc.devRef .tc main_v65))
    = fl S512x4x157x16 (shapeCast S512x4x157x16 (fl S2048x157x16 (V (Proc.devRef .tc main_v64))) shapeCasts_S2048x157x16_S512x4x157x16) := by
  after_reads_simp
  rfl

/-- Region 0's part of the result, when the parts are joined. -/
theorem piece0 (b : Fin 512) (s : Fin 4) (d : Fin 157) (h : Fin 16) :
    fl S512x4x157x16 (W24 m ρ c (Proc.devRef .tc main_v65)) (ix4 b s d h) = outAt m c ⟨0 + (b : Nat), by omega⟩ s d h := by
  have e : W24 m ρ c (Proc.devRef .tc main_v65) = W11 m ρ c (Proc.devRef .tc main_v65) :=
    (W24_of m ρ c main_v65 (by decide)).trans ((W23_of m ρ c main_v65 (by decide)).trans ((W22_of m ρ c main_v65 (by decide)).trans ((W21_of m ρ c main_v65 (by decide)).trans ((W20_of m ρ c main_v65 (by decide)).trans ((W19_of m ρ c main_v65 (by decide)).trans ((W18_of m ρ c main_v65 (by decide)).trans ((W17_of m ρ c main_v65 (by decide)).trans ((W16_of m ρ c main_v65 (by decide)).trans ((W15_of m ρ c main_v65 (by decide)).trans ((W14_of m ρ c main_v65 (by decide)).trans ((W13_of m ρ c main_v65 (by decide)).trans (W12_of m ρ c main_v65 (by decide)))))))))))))
  rw [e]
  exact (congrFun (group0 (W10 m ρ c)) _).trans (part0 m ρ c b s d h)

theorem slice1 (V : Valuation τ sig (Elt Ideal)) (b : Fin 512) (s : Fin 4) (d : Fin 157) :
    fl S512x4x157 (StableHlo.after hostOps1 V (Proc.devRef .tc main_v66)) (ix3 b s d)
      = fl S4096x4x157 (V (Proc.devRef .tc main_arg0)) (ix3 ⟨512 + (b : Nat), by omega⟩ s d) := by
  after_reads_simp
  pointwise

/-- The rows region 1 reads are rows 512 to 1023 of the first argument. -/
theorem rows1 (b : Fin 512) (s : Fin 4) (d : Fin 157) : fl S512x4x157 (W11 m ρ c (Proc.devRef .tc main_v66)) (ix3 b s d)
    = inX m c ⟨512 + (b : Nat), by omega⟩ s d := by
  refine (slice1 (W10 m ρ c) b s d).trans ?_
  unfold inX
  rw [W10_args m ρ c main_arg0 (by decide)]

/-- What region 1 leaves, regrouped. -/
theorem part1 (b : Fin 512) (s : Fin 4) (d : Fin 157) (h : Fin 16) :
    fl S512x4x157x16 (shapeCast S512x4x157x16 (W12 m ρ c (Proc.devRef .tc main_v67)) shapeCasts_S2048x157x16_S512x4x157x16) (ix4 b s d h)
      = outAt m c ⟨512 + (b : Nat), by omega⟩ s d h := by
  have e : W12 m ρ c (Proc.devRef .tc main_v67) = _ := (W12_arr m ρ c 3).trans (R1.final (V11 m ρ) c)
  rw [e]
  refine (regroup _ b s d h).trans (region_at m ρ c _ _ _ _ b s d h (fun d' => rows1 m ρ c b s d') ?_ ?_)
  · exact (W11_of m ρ c main_cst (by decide)).trans (W10_of m ρ c main_cst (by decide))
  · exact (W11_of m ρ c main_v62 (by decide)).trans (W10_of m ρ c main_v62 (by decide))

theorem group1 (V : Valuation τ sig (Elt Ideal)) : fl S512x4x157x16 (StableHlo.after hostOps2 V (Proc.devRef .tc main_v68))
    = fl S512x4x157x16 (shapeCast S512x4x157x16 (fl S2048x157x16 (V (Proc.devRef .tc main_v67))) shapeCasts_S2048x157x16_S512x4x157x16) := by
  after_reads_simp
  rfl

/-- Region 1's part of the result, when the parts are joined. -/
theorem piece1 (b : Fin 512) (s : Fin 4) (d : Fin 157) (h : Fin 16) :
    fl S512x4x157x16 (W24 m ρ c (Proc.devRef .tc main_v68)) (ix4 b s d h) = outAt m c ⟨512 + (b : Nat), by omega⟩ s d h := by
  have e : W24 m ρ c (Proc.devRef .tc main_v68) = W13 m ρ c (Proc.devRef .tc main_v68) :=
    (W24_of m ρ c main_v68 (by decide)).trans ((W23_of m ρ c main_v68 (by decide)).trans ((W22_of m ρ c main_v68 (by decide)).trans ((W21_of m ρ c main_v68 (by decide)).trans ((W20_of m ρ c main_v68 (by decide)).trans ((W19_of m ρ c main_v68 (by decide)).trans ((W18_of m ρ c main_v68 (by decide)).trans ((W17_of m ρ c main_v68 (by decide)).trans ((W16_of m ρ c main_v68 (by decide)).trans ((W15_of m ρ c main_v68 (by decide)).trans (W14_of m ρ c main_v68 (by decide)))))))))))
  rw [e]
  exact (congrFun (group1 (W12 m ρ c)) _).trans (part1 m ρ c b s d h)

theorem slice2 (V : Valuation τ sig (Elt Ideal)) (b : Fin 512) (s : Fin 4) (d : Fin 157) :
    fl S512x4x157 (StableHlo.after hostOps2 V (Proc.devRef .tc main_v69)) (ix3 b s d)
      = fl S4096x4x157 (V (Proc.devRef .tc main_arg0)) (ix3 ⟨1024 + (b : Nat), by omega⟩ s d) := by
  after_reads_simp
  pointwise

/-- The rows region 2 reads are rows 1024 to 1535 of the first argument. -/
theorem rows2 (b : Fin 512) (s : Fin 4) (d : Fin 157) : fl S512x4x157 (W13 m ρ c (Proc.devRef .tc main_v69)) (ix3 b s d)
    = inX m c ⟨1024 + (b : Nat), by omega⟩ s d := by
  refine (slice2 (W12 m ρ c) b s d).trans ?_
  unfold inX
  rw [W12_args m ρ c main_arg0 (by decide)]

/-- What region 2 leaves, regrouped. -/
theorem part2 (b : Fin 512) (s : Fin 4) (d : Fin 157) (h : Fin 16) :
    fl S512x4x157x16 (shapeCast S512x4x157x16 (W14 m ρ c (Proc.devRef .tc main_v70)) shapeCasts_S2048x157x16_S512x4x157x16) (ix4 b s d h)
      = outAt m c ⟨1024 + (b : Nat), by omega⟩ s d h := by
  have e : W14 m ρ c (Proc.devRef .tc main_v70) = _ := (W14_arr m ρ c 3).trans (R2.final (V13 m ρ) c)
  rw [e]
  refine (regroup _ b s d h).trans (region_at m ρ c _ _ _ _ b s d h (fun d' => rows2 m ρ c b s d') ?_ ?_)
  · exact (W13_of m ρ c main_cst (by decide)).trans ((W12_of m ρ c main_cst (by decide)).trans ((W11_of m ρ c main_cst (by decide)).trans (W10_of m ρ c main_cst (by decide))))
  · exact (W13_of m ρ c main_v62 (by decide)).trans ((W12_of m ρ c main_v62 (by decide)).trans ((W11_of m ρ c main_v62 (by decide)).trans (W10_of m ρ c main_v62 (by decide))))

theorem group2 (V : Valuation τ sig (Elt Ideal)) : fl S512x4x157x16 (StableHlo.after hostOps3 V (Proc.devRef .tc main_v71))
    = fl S512x4x157x16 (shapeCast S512x4x157x16 (fl S2048x157x16 (V (Proc.devRef .tc main_v70))) shapeCasts_S2048x157x16_S512x4x157x16) := by
  after_reads_simp
  rfl

/-- Region 2's part of the result, when the parts are joined. -/
theorem piece2 (b : Fin 512) (s : Fin 4) (d : Fin 157) (h : Fin 16) :
    fl S512x4x157x16 (W24 m ρ c (Proc.devRef .tc main_v71)) (ix4 b s d h) = outAt m c ⟨1024 + (b : Nat), by omega⟩ s d h := by
  have e : W24 m ρ c (Proc.devRef .tc main_v71) = W15 m ρ c (Proc.devRef .tc main_v71) :=
    (W24_of m ρ c main_v71 (by decide)).trans ((W23_of m ρ c main_v71 (by decide)).trans ((W22_of m ρ c main_v71 (by decide)).trans ((W21_of m ρ c main_v71 (by decide)).trans ((W20_of m ρ c main_v71 (by decide)).trans ((W19_of m ρ c main_v71 (by decide)).trans ((W18_of m ρ c main_v71 (by decide)).trans ((W17_of m ρ c main_v71 (by decide)).trans (W16_of m ρ c main_v71 (by decide)))))))))
  rw [e]
  exact (congrFun (group2 (W14 m ρ c)) _).trans (part2 m ρ c b s d h)

theorem slice3 (V : Valuation τ sig (Elt Ideal)) (b : Fin 512) (s : Fin 4) (d : Fin 157) :
    fl S512x4x157 (StableHlo.after hostOps3 V (Proc.devRef .tc main_v72)) (ix3 b s d)
      = fl S4096x4x157 (V (Proc.devRef .tc main_arg0)) (ix3 ⟨1536 + (b : Nat), by omega⟩ s d) := by
  after_reads_simp
  pointwise

/-- The rows region 3 reads are rows 1536 to 2047 of the first argument. -/
theorem rows3 (b : Fin 512) (s : Fin 4) (d : Fin 157) : fl S512x4x157 (W15 m ρ c (Proc.devRef .tc main_v72)) (ix3 b s d)
    = inX m c ⟨1536 + (b : Nat), by omega⟩ s d := by
  refine (slice3 (W14 m ρ c) b s d).trans ?_
  unfold inX
  rw [W14_args m ρ c main_arg0 (by decide)]

/-- What region 3 leaves, regrouped. -/
theorem part3 (b : Fin 512) (s : Fin 4) (d : Fin 157) (h : Fin 16) :
    fl S512x4x157x16 (shapeCast S512x4x157x16 (W16 m ρ c (Proc.devRef .tc main_v73)) shapeCasts_S2048x157x16_S512x4x157x16) (ix4 b s d h)
      = outAt m c ⟨1536 + (b : Nat), by omega⟩ s d h := by
  have e : W16 m ρ c (Proc.devRef .tc main_v73) = _ := (W16_arr m ρ c 3).trans (R3.final (V15 m ρ) c)
  rw [e]
  refine (regroup _ b s d h).trans (region_at m ρ c _ _ _ _ b s d h (fun d' => rows3 m ρ c b s d') ?_ ?_)
  · exact (W15_of m ρ c main_cst (by decide)).trans ((W14_of m ρ c main_cst (by decide)).trans ((W13_of m ρ c main_cst (by decide)).trans ((W12_of m ρ c main_cst (by decide)).trans ((W11_of m ρ c main_cst (by decide)).trans (W10_of m ρ c main_cst (by decide))))))
  · exact (W15_of m ρ c main_v62 (by decide)).trans ((W14_of m ρ c main_v62 (by decide)).trans ((W13_of m ρ c main_v62 (by decide)).trans ((W12_of m ρ c main_v62 (by decide)).trans ((W11_of m ρ c main_v62 (by decide)).trans (W10_of m ρ c main_v62 (by decide))))))

theorem group3 (V : Valuation τ sig (Elt Ideal)) : fl S512x4x157x16 (StableHlo.after hostOps4 V (Proc.devRef .tc main_v74))
    = fl S512x4x157x16 (shapeCast S512x4x157x16 (fl S2048x157x16 (V (Proc.devRef .tc main_v73))) shapeCasts_S2048x157x16_S512x4x157x16) := by
  after_reads_simp
  rfl

/-- Region 3's part of the result, when the parts are joined. -/
theorem piece3 (b : Fin 512) (s : Fin 4) (d : Fin 157) (h : Fin 16) :
    fl S512x4x157x16 (W24 m ρ c (Proc.devRef .tc main_v74)) (ix4 b s d h) = outAt m c ⟨1536 + (b : Nat), by omega⟩ s d h := by
  have e : W24 m ρ c (Proc.devRef .tc main_v74) = W17 m ρ c (Proc.devRef .tc main_v74) :=
    (W24_of m ρ c main_v74 (by decide)).trans ((W23_of m ρ c main_v74 (by decide)).trans ((W22_of m ρ c main_v74 (by decide)).trans ((W21_of m ρ c main_v74 (by decide)).trans ((W20_of m ρ c main_v74 (by decide)).trans ((W19_of m ρ c main_v74 (by decide)).trans (W18_of m ρ c main_v74 (by decide)))))))
  rw [e]
  exact (congrFun (group3 (W16 m ρ c)) _).trans (part3 m ρ c b s d h)

theorem slice4 (V : Valuation τ sig (Elt Ideal)) (b : Fin 512) (s : Fin 4) (d : Fin 157) :
    fl S512x4x157 (StableHlo.after hostOps4 V (Proc.devRef .tc main_v75)) (ix3 b s d)
      = fl S4096x4x157 (V (Proc.devRef .tc main_arg0)) (ix3 ⟨2048 + (b : Nat), by omega⟩ s d) := by
  after_reads_simp
  pointwise

/-- The rows region 4 reads are rows 2048 to 2559 of the first argument. -/
theorem rows4 (b : Fin 512) (s : Fin 4) (d : Fin 157) : fl S512x4x157 (W17 m ρ c (Proc.devRef .tc main_v75)) (ix3 b s d)
    = inX m c ⟨2048 + (b : Nat), by omega⟩ s d := by
  refine (slice4 (W16 m ρ c) b s d).trans ?_
  unfold inX
  rw [W16_args m ρ c main_arg0 (by decide)]

/-- What region 4 leaves, regrouped. -/
theorem part4 (b : Fin 512) (s : Fin 4) (d : Fin 157) (h : Fin 16) :
    fl S512x4x157x16 (shapeCast S512x4x157x16 (W18 m ρ c (Proc.devRef .tc main_v76)) shapeCasts_S2048x157x16_S512x4x157x16) (ix4 b s d h)
      = outAt m c ⟨2048 + (b : Nat), by omega⟩ s d h := by
  have e : W18 m ρ c (Proc.devRef .tc main_v76) = _ := (W18_arr m ρ c 3).trans (R4.final (V17 m ρ) c)
  rw [e]
  refine (regroup _ b s d h).trans (region_at m ρ c _ _ _ _ b s d h (fun d' => rows4 m ρ c b s d') ?_ ?_)
  · exact (W17_of m ρ c main_cst (by decide)).trans ((W16_of m ρ c main_cst (by decide)).trans ((W15_of m ρ c main_cst (by decide)).trans ((W14_of m ρ c main_cst (by decide)).trans ((W13_of m ρ c main_cst (by decide)).trans ((W12_of m ρ c main_cst (by decide)).trans ((W11_of m ρ c main_cst (by decide)).trans (W10_of m ρ c main_cst (by decide))))))))
  · exact (W17_of m ρ c main_v62 (by decide)).trans ((W16_of m ρ c main_v62 (by decide)).trans ((W15_of m ρ c main_v62 (by decide)).trans ((W14_of m ρ c main_v62 (by decide)).trans ((W13_of m ρ c main_v62 (by decide)).trans ((W12_of m ρ c main_v62 (by decide)).trans ((W11_of m ρ c main_v62 (by decide)).trans (W10_of m ρ c main_v62 (by decide))))))))

theorem group4 (V : Valuation τ sig (Elt Ideal)) : fl S512x4x157x16 (StableHlo.after hostOps5 V (Proc.devRef .tc main_v77))
    = fl S512x4x157x16 (shapeCast S512x4x157x16 (fl S2048x157x16 (V (Proc.devRef .tc main_v76))) shapeCasts_S2048x157x16_S512x4x157x16) := by
  after_reads_simp
  rfl

/-- Region 4's part of the result, when the parts are joined. -/
theorem piece4 (b : Fin 512) (s : Fin 4) (d : Fin 157) (h : Fin 16) :
    fl S512x4x157x16 (W24 m ρ c (Proc.devRef .tc main_v77)) (ix4 b s d h) = outAt m c ⟨2048 + (b : Nat), by omega⟩ s d h := by
  have e : W24 m ρ c (Proc.devRef .tc main_v77) = W19 m ρ c (Proc.devRef .tc main_v77) :=
    (W24_of m ρ c main_v77 (by decide)).trans ((W23_of m ρ c main_v77 (by decide)).trans ((W22_of m ρ c main_v77 (by decide)).trans ((W21_of m ρ c main_v77 (by decide)).trans (W20_of m ρ c main_v77 (by decide)))))
  rw [e]
  exact (congrFun (group4 (W18 m ρ c)) _).trans (part4 m ρ c b s d h)

theorem slice5 (V : Valuation τ sig (Elt Ideal)) (b : Fin 512) (s : Fin 4) (d : Fin 157) :
    fl S512x4x157 (StableHlo.after hostOps5 V (Proc.devRef .tc main_v78)) (ix3 b s d)
      = fl S4096x4x157 (V (Proc.devRef .tc main_arg0)) (ix3 ⟨2560 + (b : Nat), by omega⟩ s d) := by
  after_reads_simp
  pointwise

/-- The rows region 5 reads are rows 2560 to 3071 of the first argument. -/
theorem rows5 (b : Fin 512) (s : Fin 4) (d : Fin 157) : fl S512x4x157 (W19 m ρ c (Proc.devRef .tc main_v78)) (ix3 b s d)
    = inX m c ⟨2560 + (b : Nat), by omega⟩ s d := by
  refine (slice5 (W18 m ρ c) b s d).trans ?_
  unfold inX
  rw [W18_args m ρ c main_arg0 (by decide)]

/-- What region 5 leaves, regrouped. -/
theorem part5 (b : Fin 512) (s : Fin 4) (d : Fin 157) (h : Fin 16) :
    fl S512x4x157x16 (shapeCast S512x4x157x16 (W20 m ρ c (Proc.devRef .tc main_v79)) shapeCasts_S2048x157x16_S512x4x157x16) (ix4 b s d h)
      = outAt m c ⟨2560 + (b : Nat), by omega⟩ s d h := by
  have e : W20 m ρ c (Proc.devRef .tc main_v79) = _ := (W20_arr m ρ c 3).trans (R5.final (V19 m ρ) c)
  rw [e]
  refine (regroup _ b s d h).trans (region_at m ρ c _ _ _ _ b s d h (fun d' => rows5 m ρ c b s d') ?_ ?_)
  · exact (W19_of m ρ c main_cst (by decide)).trans ((W18_of m ρ c main_cst (by decide)).trans ((W17_of m ρ c main_cst (by decide)).trans ((W16_of m ρ c main_cst (by decide)).trans ((W15_of m ρ c main_cst (by decide)).trans ((W14_of m ρ c main_cst (by decide)).trans ((W13_of m ρ c main_cst (by decide)).trans ((W12_of m ρ c main_cst (by decide)).trans ((W11_of m ρ c main_cst (by decide)).trans (W10_of m ρ c main_cst (by decide))))))))))
  · exact (W19_of m ρ c main_v62 (by decide)).trans ((W18_of m ρ c main_v62 (by decide)).trans ((W17_of m ρ c main_v62 (by decide)).trans ((W16_of m ρ c main_v62 (by decide)).trans ((W15_of m ρ c main_v62 (by decide)).trans ((W14_of m ρ c main_v62 (by decide)).trans ((W13_of m ρ c main_v62 (by decide)).trans ((W12_of m ρ c main_v62 (by decide)).trans ((W11_of m ρ c main_v62 (by decide)).trans (W10_of m ρ c main_v62 (by decide))))))))))

theorem group5 (V : Valuation τ sig (Elt Ideal)) : fl S512x4x157x16 (StableHlo.after hostOps6 V (Proc.devRef .tc main_v80))
    = fl S512x4x157x16 (shapeCast S512x4x157x16 (fl S2048x157x16 (V (Proc.devRef .tc main_v79))) shapeCasts_S2048x157x16_S512x4x157x16) := by
  after_reads_simp
  rfl

/-- Region 5's part of the result, when the parts are joined. -/
theorem piece5 (b : Fin 512) (s : Fin 4) (d : Fin 157) (h : Fin 16) :
    fl S512x4x157x16 (W24 m ρ c (Proc.devRef .tc main_v80)) (ix4 b s d h) = outAt m c ⟨2560 + (b : Nat), by omega⟩ s d h := by
  have e : W24 m ρ c (Proc.devRef .tc main_v80) = W21 m ρ c (Proc.devRef .tc main_v80) :=
    (W24_of m ρ c main_v80 (by decide)).trans ((W23_of m ρ c main_v80 (by decide)).trans (W22_of m ρ c main_v80 (by decide)))
  rw [e]
  exact (congrFun (group5 (W20 m ρ c)) _).trans (part5 m ρ c b s d h)

theorem slice6 (V : Valuation τ sig (Elt Ideal)) (b : Fin 512) (s : Fin 4) (d : Fin 157) :
    fl S512x4x157 (StableHlo.after hostOps6 V (Proc.devRef .tc main_v81)) (ix3 b s d)
      = fl S4096x4x157 (V (Proc.devRef .tc main_arg0)) (ix3 ⟨3072 + (b : Nat), by omega⟩ s d) := by
  after_reads_simp
  pointwise

/-- The rows region 6 reads are rows 3072 to 3583 of the first argument. -/
theorem rows6 (b : Fin 512) (s : Fin 4) (d : Fin 157) : fl S512x4x157 (W21 m ρ c (Proc.devRef .tc main_v81)) (ix3 b s d)
    = inX m c ⟨3072 + (b : Nat), by omega⟩ s d := by
  refine (slice6 (W20 m ρ c) b s d).trans ?_
  unfold inX
  rw [W20_args m ρ c main_arg0 (by decide)]

/-- What region 6 leaves, regrouped. -/
theorem part6 (b : Fin 512) (s : Fin 4) (d : Fin 157) (h : Fin 16) :
    fl S512x4x157x16 (shapeCast S512x4x157x16 (W22 m ρ c (Proc.devRef .tc main_v82)) shapeCasts_S2048x157x16_S512x4x157x16) (ix4 b s d h)
      = outAt m c ⟨3072 + (b : Nat), by omega⟩ s d h := by
  have e : W22 m ρ c (Proc.devRef .tc main_v82) = _ := (W22_arr m ρ c 3).trans (R6.final (V21 m ρ) c)
  rw [e]
  refine (regroup _ b s d h).trans (region_at m ρ c _ _ _ _ b s d h (fun d' => rows6 m ρ c b s d') ?_ ?_)
  · exact (W21_of m ρ c main_cst (by decide)).trans ((W20_of m ρ c main_cst (by decide)).trans ((W19_of m ρ c main_cst (by decide)).trans ((W18_of m ρ c main_cst (by decide)).trans ((W17_of m ρ c main_cst (by decide)).trans ((W16_of m ρ c main_cst (by decide)).trans ((W15_of m ρ c main_cst (by decide)).trans ((W14_of m ρ c main_cst (by decide)).trans ((W13_of m ρ c main_cst (by decide)).trans ((W12_of m ρ c main_cst (by decide)).trans ((W11_of m ρ c main_cst (by decide)).trans (W10_of m ρ c main_cst (by decide))))))))))))
  · exact (W21_of m ρ c main_v62 (by decide)).trans ((W20_of m ρ c main_v62 (by decide)).trans ((W19_of m ρ c main_v62 (by decide)).trans ((W18_of m ρ c main_v62 (by decide)).trans ((W17_of m ρ c main_v62 (by decide)).trans ((W16_of m ρ c main_v62 (by decide)).trans ((W15_of m ρ c main_v62 (by decide)).trans ((W14_of m ρ c main_v62 (by decide)).trans ((W13_of m ρ c main_v62 (by decide)).trans ((W12_of m ρ c main_v62 (by decide)).trans ((W11_of m ρ c main_v62 (by decide)).trans (W10_of m ρ c main_v62 (by decide))))))))))))

theorem group6 (V : Valuation τ sig (Elt Ideal)) : fl S512x4x157x16 (StableHlo.after hostOps7 V (Proc.devRef .tc main_v83))
    = fl S512x4x157x16 (shapeCast S512x4x157x16 (fl S2048x157x16 (V (Proc.devRef .tc main_v82))) shapeCasts_S2048x157x16_S512x4x157x16) := by
  after_reads_simp
  rfl

/-- Region 6's part of the result, when the parts are joined. -/
theorem piece6 (b : Fin 512) (s : Fin 4) (d : Fin 157) (h : Fin 16) :
    fl S512x4x157x16 (W24 m ρ c (Proc.devRef .tc main_v83)) (ix4 b s d h) = outAt m c ⟨3072 + (b : Nat), by omega⟩ s d h := by
  have e : W24 m ρ c (Proc.devRef .tc main_v83) = W23 m ρ c (Proc.devRef .tc main_v83) :=
    W24_of m ρ c main_v83 (by decide)
  rw [e]
  exact (congrFun (group6 (W22 m ρ c)) _).trans (part6 m ρ c b s d h)

theorem slice7 (V : Valuation τ sig (Elt Ideal)) (b : Fin 512) (s : Fin 4) (d : Fin 157) :
    fl S512x4x157 (StableHlo.after hostOps7 V (Proc.devRef .tc main_v84)) (ix3 b s d)
      = fl S4096x4x157 (V (Proc.devRef .tc main_arg0)) (ix3 ⟨3584 + (b : Nat), by omega⟩ s d) := by
  after_reads_simp
  pointwise

/-- The rows region 7 reads are rows 3584 to 4095 of the first argument. -/
theorem rows7 (b : Fin 512) (s : Fin 4) (d : Fin 157) : fl S512x4x157 (W23 m ρ c (Proc.devRef .tc main_v84)) (ix3 b s d)
    = inX m c ⟨3584 + (b : Nat), by omega⟩ s d := by
  refine (slice7 (W22 m ρ c) b s d).trans ?_
  unfold inX
  rw [W22_args m ρ c main_arg0 (by decide)]

/-- What region 7 leaves, regrouped. -/
theorem part7 (b : Fin 512) (s : Fin 4) (d : Fin 157) (h : Fin 16) :
    fl S512x4x157x16 (shapeCast S512x4x157x16 (W24 m ρ c (Proc.devRef .tc main_v85)) shapeCasts_S2048x157x16_S512x4x157x16) (ix4 b s d h)
      = outAt m c ⟨3584 + (b : Nat), by omega⟩ s d h := by
  have e : W24 m ρ c (Proc.devRef .tc main_v85) = _ := (W24_arr m ρ c 3).trans (R7.final (V23 m ρ) c)
  rw [e]
  refine (regroup _ b s d h).trans (region_at m ρ c _ _ _ _ b s d h (fun d' => rows7 m ρ c b s d') ?_ ?_)
  · exact (W23_of m ρ c main_cst (by decide)).trans ((W22_of m ρ c main_cst (by decide)).trans ((W21_of m ρ c main_cst (by decide)).trans ((W20_of m ρ c main_cst (by decide)).trans ((W19_of m ρ c main_cst (by decide)).trans ((W18_of m ρ c main_cst (by decide)).trans ((W17_of m ρ c main_cst (by decide)).trans ((W16_of m ρ c main_cst (by decide)).trans ((W15_of m ρ c main_cst (by decide)).trans ((W14_of m ρ c main_cst (by decide)).trans ((W13_of m ρ c main_cst (by decide)).trans ((W12_of m ρ c main_cst (by decide)).trans ((W11_of m ρ c main_cst (by decide)).trans (W10_of m ρ c main_cst (by decide))))))))))))))
  · exact (W23_of m ρ c main_v62 (by decide)).trans ((W22_of m ρ c main_v62 (by decide)).trans ((W21_of m ρ c main_v62 (by decide)).trans ((W20_of m ρ c main_v62 (by decide)).trans ((W19_of m ρ c main_v62 (by decide)).trans ((W18_of m ρ c main_v62 (by decide)).trans ((W17_of m ρ c main_v62 (by decide)).trans ((W16_of m ρ c main_v62 (by decide)).trans ((W15_of m ρ c main_v62 (by decide)).trans ((W14_of m ρ c main_v62 (by decide)).trans ((W13_of m ρ c main_v62 (by decide)).trans ((W12_of m ρ c main_v62 (by decide)).trans ((W11_of m ρ c main_v62 (by decide)).trans (W10_of m ρ c main_v62 (by decide))))))))))))))

/-- The eight parts joined, at a row. -/
theorem joined_raw (V : Valuation τ sig (Elt Ideal)) (b : Fin 4096) (s : Fin 4) (d : Fin 157) (h : Fin 16) :
    fl S4096x4x157x16 (StableHlo.after hostOps8 V (Proc.devRef .tc main_v87)) (ix4 b s d h)
      = if h0 : (b : Nat) < 512 then fl S512x4x157x16 (V (Proc.devRef .tc main_v65)) (ix4 ⟨(b : Nat), by omega⟩ s d h)
      else if h1 : (b : Nat) - 512 < 512 then fl S512x4x157x16 (V (Proc.devRef .tc main_v68)) (ix4 ⟨(b : Nat) - 512, by omega⟩ s d h)
      else if h2 : (b : Nat) - 512 - 512 < 512 then fl S512x4x157x16 (V (Proc.devRef .tc main_v71)) (ix4 ⟨(b : Nat) - 512 - 512, by omega⟩ s d h)
      else if h3 : (b : Nat) - 512 - 512 - 512 < 512 then fl S512x4x157x16 (V (Proc.devRef .tc main_v74)) (ix4 ⟨(b : Nat) - 512 - 512 - 512, by omega⟩ s d h)
      else if h4 : (b : Nat) - 512 - 512 - 512 - 512 < 512 then fl S512x4x157x16 (V (Proc.devRef .tc main_v77)) (ix4 ⟨(b : Nat) - 512 - 512 - 512 - 512, by omega⟩ s d h)
      else if h5 : (b : Nat) - 512 - 512 - 512 - 512 - 512 < 512 then fl S512x4x157x16 (V (Proc.devRef .tc main_v80)) (ix4 ⟨(b : Nat) - 512 - 512 - 512 - 512 - 512, by omega⟩ s d h)
      else if h6 : (b : Nat) - 512 - 512 - 512 - 512 - 512 - 512 < 512 then fl S512x4x157x16 (V (Proc.devRef .tc main_v83)) (ix4 ⟨(b : Nat) - 512 - 512 - 512 - 512 - 512 - 512, by omega⟩ s d h)
      else fl S2048x157x16 (V (Proc.devRef .tc main_v85)) (ix3 ⟨((b : Nat) - 512 - 512 - 512 - 512 - 512 - 512 - 512) * 4 + s, by omega⟩ d h) := by
  after_reads_simp
  pointwise
  after_reads_simp
  pointwise

/-- The kernel's result at a row and position. -/
theorem kernel_out (b : Fin 4096) (s : Fin 4) (d : Fin 157) (h : Fin 16) :
    fl S4096x4x157x16 (W25 m ρ c (Proc.devRef .tc main_v87)) (ix4 b s d h) = outAt m c b s d h := by
  refine (joined_raw (W24 m ρ c) b s d h).trans ?_
  by_cases h0 : (b : Nat) < 512
  · rw [dif_pos h0, piece0]; exact congrArg (fun a => outAt m c a s d h) (Fin.ext (by show 0 + ((b : Nat)) = b; omega))
  rw [dif_neg h0]
  by_cases h1 : (b : Nat) - 512 < 512
  · rw [dif_pos h1, piece1]; exact congrArg (fun a => outAt m c a s d h) (Fin.ext (by show 512 + ((b : Nat) - 512) = b; omega))
  rw [dif_neg h1]
  by_cases h2 : (b : Nat) - 512 - 512 < 512
  · rw [dif_pos h2, piece2]; exact congrArg (fun a => outAt m c a s d h) (Fin.ext (by show 1024 + ((b : Nat) - 512 - 512) = b; omega))
  rw [dif_neg h2]
  by_cases h3 : (b : Nat) - 512 - 512 - 512 < 512
  · rw [dif_pos h3, piece3]; exact congrArg (fun a => outAt m c a s d h) (Fin.ext (by show 1536 + ((b : Nat) - 512 - 512 - 512) = b; omega))
  rw [dif_neg h3]
  by_cases h4 : (b : Nat) - 512 - 512 - 512 - 512 < 512
  · rw [dif_pos h4, piece4]; exact congrArg (fun a => outAt m c a s d h) (Fin.ext (by show 2048 + ((b : Nat) - 512 - 512 - 512 - 512) = b; omega))
  rw [dif_neg h4]
  by_cases h5 : (b : Nat) - 512 - 512 - 512 - 512 - 512 < 512
  · rw [dif_pos h5, piece5]; exact congrArg (fun a => outAt m c a s d h) (Fin.ext (by show 2560 + ((b : Nat) - 512 - 512 - 512 - 512 - 512) = b; omega))
  rw [dif_neg h5]
  by_cases h6 : (b : Nat) - 512 - 512 - 512 - 512 - 512 - 512 < 512
  · rw [dif_pos h6, piece6]; exact congrArg (fun a => outAt m c a s d h) (Fin.ext (by show 3072 + ((b : Nat) - 512 - 512 - 512 - 512 - 512 - 512) = b; omega))
  rw [dif_neg h6]
  refine (regroup (fl S2048x157x16 (W24 m ρ c (Proc.devRef .tc main_v85))) ⟨(b : Nat) - 512 - 512 - 512 - 512 - 512 - 512 - 512, by omega⟩ s d h).symm.trans ((part7 m ρ c _ s d h).trans ?_)
  exact congrArg (fun a => outAt m c a s d h) (Fin.ext (by show 3584 + ((b : Nat) - 512 - 512 - 512 - 512 - 512 - 512 - 512) = b; omega))

/-- On a row of the claim, the kernel's result is the activated embedding plus the position's entry. -/
theorem kernel_val (b : Fin 4096) (s : Fin 4) (d : Fin 157) (h : Fin 16) (hx : GoodRow (inX m c b s)) :
    fl S4096x4x157x16 (W25 m ρ c (Proc.devRef .tc main_v87)) (ix4 b s d h)
      = act (embed (inX m c b s) (inT m c) (inW m c) (inB m c) ⟨((d : Nat) * 16 + h) % 157, by omega⟩ ⟨((d : Nat) * 16 + h) / 157, by omega⟩
          + inP m c d h) := by
  rw [kernel_out]
  unfold outAt rowOut
  rw [sum_eq _ _ _ _ _ _ _ hx]
  refine congrArg act (congrArg _ (congrArg₂ (inP m c) (Fin.ext ?_) (Fin.ext ?_)))
  · show ((d : Nat) * 16 + h) / 16 = d; omega
  · show ((d : Nat) * 16 + h) % 16 = h; omega

end Cert.Val
-- ==== Proof.Pre.lean ====
/-
  What the precondition says of the input: every entry is finite and every category is one of its feature's.
-/
module

public import proofs.«01_k».proof.Pre_in_range
public import proofs.«01_k».proof.Proof.Spec
public import Idealize.ShloMosaic.Lib.Pointwise

@[expose] public section

set_option maxRecDepth 16384

noncomputable section

namespace Cert.Val

open Idealize.ShloMosaic

/-- The shape relations the precondition's operations take. -/
instance preFacts : Cert.Pre_in_range.Facts where
  slices_S4096x4x157_S4096x4x11_0_0_0 := by decide
  bcast_S11_S1x1x11_2 := by decide
  bcast_S_S4096x4x11 := by decide
  bcast_S1x1x11_S4096x4x11_0_1_2 := by decide
  slices_S4096x4x157_S4096x4x146_0_0_11 := by decide
  bcast_S_S4096x4x146 := by decide
  concatenates_S4096x4x11_S4096x4x146_S4096x4x157_d2 := by decide

theorem vocab_lit : ∀ d : Fin 11, Cert.Pre_in_range.lit0 d = BitVec.ofNat 32 (vocabN d) := by decide +kernel

theorem both_flags : ∀ {a b : BitVec 1}, IntOp.andi a b = 1#1 → a = 1#1 ∧ b = 1#1 := by decide

theorem of_bit {p : Bool} (h : BitVec.ofBool p = 1#1) : p = true := by
  cases p
  · exact absurd h (by decide)
  · rfl

theorem of_flag {p : Prop} [Decidable p] (h : BitVec.ofBool (decide p) = 1#1) : p := of_decide_eq_true (of_bit h)

theorem top_bits : Ideal.ofBits .f32 2139095040#32 = ⊤ := by
  simp [Ideal.ofBits, Ideal.ieee]

/-- A category in range is not one of the two ends an infinite entry is converted to. -/
theorem cat_bounds (x : EReal) (f : Fin 11)
    (h : IntOp.andi (IntOp.cmpi .sge (FloatOps.fptosi (F := Ideal) (φ := .f32) 32 x) 0#32)
      (IntOp.cmpi .slt (FloatOps.fptosi (F := Ideal) (φ := .f32) 32 x) (BitVec.ofNat 32 (vocabN f))) = 1#1) :
    x ≠ ⊤ ∧ x ≠ ⊥ ∧ catOf x < vocabN f := by
  refine ⟨?_, ?_, ?_⟩
  · rintro rfl
    revert h
    rw [show FloatOps.fptosi (F := Ideal) (φ := .f32) 32 ⊤ = 2147483647#32 from by
      show BitVec.ofInt 32 (Ideal.toIntClamped _ _ ⊤) = _
      rw [Ideal.toIntClamped_top]; decide]
    revert f; decide +kernel
  · rintro rfl
    revert h
    rw [show FloatOps.fptosi (F := Ideal) (φ := .f32) 32 ⊥ = 2147483648#32 from by
      show BitVec.ofInt 32 (Ideal.toIntClamped _ _ ⊥) = _
      rw [Ideal.toIntClamped_bot]; decide]
    revert f; decide +kernel
  · unfold catOf
    generalize FloatOps.fptosi (F := Ideal) (φ := .f32) 32 x = w at h
    have hv : vocabN f < 8 := vocab_le f
    generalize vocabN f = v at h hv
    obtain ⟨h1, h2⟩ := both_flags h
    have h1 : (0#32).sle w = true := of_bit h1
    have h2 : w.slt (BitVec.ofNat 32 v) = true := of_bit h2
    rw [BitVec.sle_eq_decide, decide_eq_true_eq, BitVec.toInt_zero] at h1
    rw [BitVec.slt_eq_decide, decide_eq_true_eq] at h2
    have hw := BitVec.toInt_eq_toNat_cond w
    have hv' : (BitVec.ofNat 32 v).toInt = v := by
      rw [BitVec.toInt_eq_toNat_cond, BitVec.toNat_ofNat, Nat.mod_eq_of_lt (by omega), if_pos (by omega)]
    rw [hv'] at h2
    have hlt := w.isLt
    split_ifs at hw with hc <;> omega

theorem abs_lt (x : EReal) (h : max x (-x) < ⊤) : x ≠ ⊤ ∧ x ≠ ⊥ := by
  constructor
  · rintro rfl; simp at h
  · rintro rfl; simp at h

theorem good_row (x0 : FVec Ideal Cert.Pre_in_range.S4096x4x157 .f32) (x1 : FVec Ideal Cert.Pre_in_range.S45x16 .f32)
    (x2 : FVec Ideal Cert.Pre_in_range.S1x16 .f32) (x3 x4 : FVec Ideal Cert.Pre_in_range.S146x16 .f32)
    (x5 : FVec Ideal Cert.Pre_in_range.S157x16 .f32)
    (h : Cert.Pre_in_range.fn (F := Ideal) x0 x1 x2 x3 x4 x5 = fun _ => 1#1) (b : Fin 4096) (s : Fin 4) :
    GoodRow fun d => x0 (ix3 b s d) := by
  have hd : ∀ d : Fin 157, Cert.Pre_in_range.fn (F := Ideal) x0 x1 x2 x3 x4 x5 (ix3 b s d) = 1#1 := fun d => congrFun h _
  unfold Cert.Pre_in_range.fn at hd
  have key : ∀ d : Fin 157, (fun d => x0 (ix3 b s d)) d ≠ ⊤ ∧ (fun d => x0 (ix3 b s d)) d ≠ ⊥ ∧ ((d : Nat) < 11 → catOf ((fun d => x0 (ix3 b s d)) d) < vocabN d) := by
    intro d
    have hd := hd d
    dsimp only at hd
    revert hd
    pointwise
    intro hd
    by_cases h11 : (d : Nat) < 11
    · rw [dif_pos h11, show Cert.Pre_in_range.S11.rowMajor (ix1 ⟨(d : Nat), h11⟩) = (⟨d, h11⟩ : Fin 11) from Fin.ext (Shape.rowMajor_val_one _),
        vocab_lit ⟨d, h11⟩] at hd
      have k := cat_bounds _ ⟨d, h11⟩ hd
      exact ⟨k.1, k.2.1, fun _ => k.2.2⟩
    · rw [dif_neg h11, top_bits] at hd
      have e : (⟨11 + ((d : Nat) - 11), by omega⟩ : Fin 157) = d := Fin.ext (by show 11 + ((d : Nat) - 11) = d; omega)
      have k := abs_lt _ (of_flag hd)
      rw [e] at k
      exact ⟨k.1, k.2, fun h => absurd h h11⟩
  exact ⟨fun d => (key d).1, fun d => (key d).2.1, fun d => (key d).2.2⟩

end Cert.Val
-- ==== Proof.RefScalar.lean ====
/-
  Scalar facts the reading of the reference uses.
-/
module

public import proofs.«01_k».proof.Proof.Gen.ReferenceIdeal.Read
public import Idealize.ShloMosaic.Lib.Pointwise
public import Idealize.ShloMosaic.Lib.Routing.Ops
public import Idealize.ShloMosaic.PureOps.Ideal.Laws

@[expose] public section

set_option maxRecDepth 16384

noncomputable section

namespace Cert.Val

open Idealize.ShloMosaic Idealize.ShloMosaic.TcCoe Idealize.SL.Sem

/-- The pattern of plus infinity. -/
theorem bits_top : Ideal.ofBits .f32 2139095040#32 = (⊤ : EReal) := by
  simp [Ideal.ofBits, Ideal.ieee]

/-- The pattern of minus infinity. -/
theorem bits_bot : Ideal.ofBits .f32 4286578688#32 = (⊥ : EReal) := by
  simp [Ideal.ofBits, Ideal.ieee]

/-- An index that is a row of the table already is not moved. -/
theorem norm_fin : ∀ n : Fin 45, Scalar.select (IntOp.cmpi .slt (BitVec.ofNat 32 n) 0#32)
    (IntOp.addi (BitVec.ofNat 32 n) 45#32) (BitVec.ofNat 32 n) = BitVec.ofNat 32 (n : Nat) := by decide +kernel

theorem norm_idx (o w : Nat) (h : o + w < 45) :
    Scalar.select (IntOp.cmpi .slt (IntOp.addi (BitVec.ofNat 32 o) (BitVec.ofNat 32 w)) 0#32)
      (IntOp.addi (IntOp.addi (BitVec.ofNat 32 o) (BitVec.ofNat 32 w)) 45#32) (IntOp.addi (BitVec.ofNat 32 o) (BitVec.ofNat 32 w))
      = BitVec.ofNat 32 (o + w) := by
  have e : IntOp.addi (BitVec.ofNat 32 o) (BitVec.ofNat 32 w) = BitVec.ofNat 32 (o + w) := by
    show BitVec.ofNat 32 o + BitVec.ofNat 32 w = _
    rw [BitVec.ofNat_add]
  rw [e]
  exact norm_fin ⟨o + w, h⟩

end Cert.Val
-- ==== Proof.RefCatA.lean ====
/-
  The reference at an index: the embedded value of each categorical feature from 0 to 5.
-/
module

public import proofs.«01_k».proof.Proof.RefScalar

@[expose] public section

set_option maxRecDepth 16384

noncomputable section

namespace Cert.Val

open Idealize.ShloMosaic Idealize.ShloMosaic.TcCoe Idealize.SL.Sem
open Cert.ReferenceIdeal Cert.ReferenceIdeal.Gen Cert.ReferenceIdeal.Read

/-- The row of the table feature 0 looks up, where the row `R` of the input holds the category `w`. -/
theorem idx0 (x0 : FVec Ideal S4096x4x157 .f32) (R : Fin 16384) (w : Nat) (hw : w < 2)
    (ht : x0 (ix3 ⟨R / 4, by omega⟩ ⟨R % 4, by omega⟩ 0) ≠ (⊤ : EReal)) (hb : x0 (ix3 ⟨R / 4, by omega⟩ ⟨R % 4, by omega⟩ 0) ≠ (⊥ : EReal))
    (hi : FloatOps.fptosi (F := Ideal) (φ := .f32) 32 (x0 (ix3 ⟨R / 4, by omega⟩ ⟨R % 4, by omega⟩ 0)) = BitVec.ofNat 32 w) :
    val_main_v16 (F := Ideal) x0 (ix2 R 0) = BitVec.ofNat 32 (w) := by
  pointwise [val_main_v2, val_main_v3, val_main_v4, val_main_v5, val_main_v6, val_main_v7, val_main_v8, val_main_v9, val_main_v10, val_main_v11, val_main_v12, val_main_v13, val_main_v14, val_main_v15, val_main_v16, val_main_v0, val_main_v1, val_main_call0_v0, val_main_call0_v1, val_main_call0_v2, val_main_call0_v3, val_main_call0_v4, val_main_call0_v5, val_main_call0_v6, val_main_call0_cst, val_main_call0_cst_0, val_main_call0_cst_1, val_main_call0_cst_2, val_main_call0_cst_3, val_main_call0_call0_v0, val_main_call0_call1_v0, val_main_call0_call2_v0, val_main_call1_v0, val_main_call1_v1, val_main_c, val_main_c_0, val_main_c_1, val_main_c_2]
  simp only [ne_eq, not_true_eq_false, if_false, bits_top, bits_bot, if_neg ht, if_neg hb, hi]
  exact (norm_idx 0 w (by omega)).trans (by rw [Nat.zero_add])

/-- The value of feature 0. -/
theorem feat0 (x0 : FVec Ideal S4096x4x157 .f32) (x1 : FVec Ideal S45x16 .f32) (x2 : FVec Ideal S1x16 .f32) (R : Fin 16384) (h : Fin 16) (w : Nat)
    (hw : w < 2)
    (ht : x0 (ix3 ⟨R / 4, by omega⟩ ⟨R % 4, by omega⟩ 0) ≠ (⊤ : EReal)) (hb : x0 (ix3 ⟨R / 4, by omega⟩ ⟨R % 4, by omega⟩ 0) ≠ (⊥ : EReal))
    (hi : FloatOps.fptosi (F := Ideal) (φ := .f32) 32 (x0 (ix3 ⟨R / 4, by omega⟩ ⟨R % 4, by omega⟩ 0)) = BitVec.ofNat 32 w) :
    val_main_v20 (F := Ideal) x0 x1 x2 (ix2 R h) = x1 (ix2 ⟨w, by omega⟩ h) := by
  have hg : val_main_v17 (F := Ideal) x0 x1 (ix2 R h) = x1 (ix2 ⟨w, by omega⟩ h) :=
    Routing.gather_row _ rfl rfl rfl rfl rfl _ _ R h ⟨w, by omega⟩ (idx0 x0 R w hw ht hb hi) (by omega)
  pointwise [val_main_v0, val_main_v1, val_main_v4, val_main_v5, val_main_v18, val_main_v19, val_main_v20, val_main_call2_v0, val_main_call2_v1]
  simp only [ne_eq, not_true_eq_false, if_false]
  exact hg

/-- The row of the table feature 1 looks up, where the row `R` of the input holds the category `w`. -/
theorem idx1 (x0 : FVec Ideal S4096x4x157 .f32) (R : Fin 16384) (w : Nat) (hw : w < 2)
    (ht : x0 (ix3 ⟨R / 4, by omega⟩ ⟨R % 4, by omega⟩ 1) ≠ (⊤ : EReal)) (hb : x0 (ix3 ⟨R / 4, by omega⟩ ⟨R % 4, by omega⟩ 1) ≠ (⊥ : EReal))
    (hi : FloatOps.fptosi (F := Ideal) (φ := .f32) 32 (x0 (ix3 ⟨R / 4, by omega⟩ ⟨R % 4, by omega⟩ 1)) = BitVec.ofNat 32 w) :
    val_main_v35 (F := Ideal) x0 (ix2 R 0) = BitVec.ofNat 32 (2 + w) := by
  pointwise [val_main_v21, val_main_v22, val_main_v23, val_main_v24, val_main_v25, val_main_v26, val_main_v27, val_main_v28, val_main_v29, val_main_v30, val_main_v31, val_main_v32, val_main_v33, val_main_v34, val_main_v35, val_main_v0, val_main_v1, val_main_call3_v0, val_main_call3_v1, val_main_call3_v2, val_main_call3_v3, val_main_call3_v4, val_main_call3_v5, val_main_call3_v6, val_main_call3_cst, val_main_call3_cst_0, val_main_call3_cst_1, val_main_call3_cst_2, val_main_call3_cst_3, val_main_call3_call0_v0, val_main_call3_call1_v0, val_main_call3_call2_v0, val_main_call4_v0, val_main_call4_v1, val_main_c_3, val_main_c_4, val_main_c_5, val_main_c_6]
  simp only [ne_eq, not_true_eq_false, if_false, bits_top, bits_bot, if_neg ht, if_neg hb, hi]
  exact norm_idx 2 w (by omega)

/-- The value of feature 1. -/
theorem feat1 (x0 : FVec Ideal S4096x4x157 .f32) (x1 : FVec Ideal S45x16 .f32) (x2 : FVec Ideal S1x16 .f32) (R : Fin 16384) (h : Fin 16) (w : Nat)
    (hw : w < 2)
    (ht : x0 (ix3 ⟨R / 4, by omega⟩ ⟨R % 4, by omega⟩ 1) ≠ (⊤ : EReal)) (hb : x0 (ix3 ⟨R / 4, by omega⟩ ⟨R % 4, by omega⟩ 1) ≠ (⊥ : EReal))
    (hi : FloatOps.fptosi (F := Ideal) (φ := .f32) 32 (x0 (ix3 ⟨R / 4, by omega⟩ ⟨R % 4, by omega⟩ 1)) = BitVec.ofNat 32 w) :
    val_main_v39 (F := Ideal) x0 x1 x2 (ix2 R h) = x1 (ix2 ⟨2 + w, by omega⟩ h) := by
  have hg : val_main_v36 (F := Ideal) x0 x1 (ix2 R h) = x1 (ix2 ⟨2 + w, by omega⟩ h) :=
    Routing.gather_row _ rfl rfl rfl rfl rfl _ _ R h ⟨2 + w, by omega⟩ (idx1 x0 R w hw ht hb hi) (by omega)
  pointwise [val_main_v0, val_main_v1, val_main_v23, val_main_v24, val_main_v37, val_main_v38, val_main_v39, val_main_call5_v0, val_main_call5_v1]
  simp only [ne_eq, not_true_eq_false, if_false]
  exact hg

/-- The row of the table feature 2 looks up, where the row `R` of the input holds the category `w`. -/
theorem idx2 (x0 : FVec Ideal S4096x4x157 .f32) (R : Fin 16384) (w : Nat) (hw : w < 2)
    (ht : x0 (ix3 ⟨R / 4, by omega⟩ ⟨R % 4, by omega⟩ 2) ≠ (⊤ : EReal)) (hb : x0 (ix3 ⟨R / 4, by omega⟩ ⟨R % 4, by omega⟩ 2) ≠ (⊥ : EReal))
    (hi : FloatOps.fptosi (F := Ideal) (φ := .f32) 32 (x0 (ix3 ⟨R / 4, by omega⟩ ⟨R % 4, by omega⟩ 2)) = BitVec.ofNat 32 w) :
    val_main_v54 (F := Ideal) x0 (ix2 R 0) = BitVec.ofNat 32 (4 + w) := by
  pointwise [val_main_v40, val_main_v41, val_main_v42, val_main_v43, val_main_v44, val_main_v45, val_main_v46, val_main_v47, val_main_v48, val_main_v49, val_main_v50, val_main_v51, val_main_v52, val_main_v53, val_main_v54, val_main_v0, val_main_v1, val_main_call6_v0, val_main_call6_v1, val_main_call6_v2, val_main_call6_v3, val_main_call6_v4, val_main_call6_v5, val_main_call6_v6, val_main_call6_cst, val_main_call6_cst_0, val_main_call6_cst_1, val_main_call6_cst_2, val_main_call6_cst_3, val_main_call6_call0_v0, val_main_call6_call1_v0, val_main_call6_call2_v0, val_main_call7_v0, val_main_call7_v1, val_main_c_7, val_main_c_8, val_main_c_9, val_main_c_10]
  simp only [ne_eq, not_true_eq_false, if_false, bits_top, bits_bot, if_neg ht, if_neg hb, hi]
  exact norm_idx 4 w (by omega)

/-- The value of feature 2. -/
theorem feat2 (x0 : FVec Ideal S4096x4x157 .f32) (x1 : FVec Ideal S45x16 .f32) (x2 : FVec Ideal S1x16 .f32) (R : Fin 16384) (h : Fin 16) (w : Nat)
    (hw : w < 2)
    (ht : x0 (ix3 ⟨R / 4, by omega⟩ ⟨R % 4, by omega⟩ 2) ≠ (⊤ : EReal)) (hb : x0 (ix3 ⟨R / 4, by omega⟩ ⟨R % 4, by omega⟩ 2) ≠ (⊥ : EReal))
    (hi : FloatOps.fptosi (F := Ideal) (φ := .f32) 32 (x0 (ix3 ⟨R / 4, by omega⟩ ⟨R % 4, by omega⟩ 2)) = BitVec.ofNat 32 w) :
    val_main_v58 (F := Ideal) x0 x1 x2 (ix2 R h) = x1 (ix2 ⟨4 + w, by omega⟩ h) := by
  have hg : val_main_v55 (F := Ideal) x0 x1 (ix2 R h) = x1 (ix2 ⟨4 + w, by omega⟩ h) :=
    Routing.gather_row _ rfl rfl rfl rfl rfl _ _ R h ⟨4 + w, by omega⟩ (idx2 x0 R w hw ht hb hi) (by omega)
  pointwise [val_main_v0, val_main_v1, val_main_v42, val_main_v43, val_main_v56, val_main_v57, val_main_v58, val_main_call8_v0, val_main_call8_v1]
  simp only [ne_eq, not_true_eq_false, if_false]
  exact hg

/-- The row of the table feature 3 looks up, where the row `R` of the input holds the category `w`. -/
theorem idx3 (x0 : FVec Ideal S4096x4x157 .f32) (R : Fin 16384) (w : Nat) (hw : w < 2)
    (ht : x0 (ix3 ⟨R / 4, by omega⟩ ⟨R % 4, by omega⟩ 3) ≠ (⊤ : EReal)) (hb : x0 (ix3 ⟨R / 4, by omega⟩ ⟨R % 4, by omega⟩ 3) ≠ (⊥ : EReal))
    (hi : FloatOps.fptosi (F := Ideal) (φ := .f32) 32 (x0 (ix3 ⟨R / 4, by omega⟩ ⟨R % 4, by omega⟩ 3)) = BitVec.ofNat 32 w) :
    val_main_v73 (F := Ideal) x0 (ix2 R 0) = BitVec.ofNat 32 (6 + w) := by
  pointwise [val_main_v59, val_main_v60, val_main_v61, val_main_v62, val_main_v63, val_main_v64, val_main_v65, val_main_v66, val_main_v67, val_main_v68, val_main_v69, val_main_v70, val_main_v71, val_main_v72, val_main_v73, val_main_v0, val_main_v1, val_main_call9_v0, val_main_call9_v1, val_main_call9_v2, val_main_call9_v3, val_main_call9_v4, val_main_call9_v5, val_main_call9_v6, val_main_call9_cst, val_main_call9_cst_0, val_main_call9_cst_1, val_main_call9_cst_2, val_main_call9_cst_3, val_main_call9_call0_v0, val_main_call9_call1_v0, val_main_call9_call2_v0, val_main_call10_v0, val_main_call10_v1, val_main_c_11, val_main_c_12, val_main_c_13, val_main_c_14]
  simp only [ne_eq, not_true_eq_false, if_false, bits_top, bits_bot, if_neg ht, if_neg hb, hi]
  exact norm_idx 6 w (by omega)

/-- The value of feature 3. -/
theorem feat3 (x0 : FVec Ideal S4096x4x157 .f32) (x1 : FVec Ideal S45x16 .f32) (x2 : FVec Ideal S1x16 .f32) (R : Fin 16384) (h : Fin 16) (w : Nat)
    (hw : w < 2)
    (ht : x0 (ix3 ⟨R / 4, by omega⟩ ⟨R % 4, by omega⟩ 3) ≠ (⊤ : EReal)) (hb : x0 (ix3 ⟨R / 4, by omega⟩ ⟨R % 4, by omega⟩ 3) ≠ (⊥ : EReal))
    (hi : FloatOps.fptosi (F := Ideal) (φ := .f32) 32 (x0 (ix3 ⟨R / 4, by omega⟩ ⟨R % 4, by omega⟩ 3)) = BitVec.ofNat 32 w) :
    val_main_v77 (F := Ideal) x0 x1 x2 (ix2 R h) = x1 (ix2 ⟨6 + w, by omega⟩ h) := by
  have hg : val_main_v74 (F := Ideal) x0 x1 (ix2 R h) = x1 (ix2 ⟨6 + w, by omega⟩ h) :=
    Routing.gather_row _ rfl rfl rfl rfl rfl _ _ R h ⟨6 + w, by omega⟩ (idx3 x0 R w hw ht hb hi) (by omega)
  pointwise [val_main_v0, val_main_v1, val_main_v61, val_main_v62, val_main_v75, val_main_v76, val_main_v77, val_main_call11_v0, val_main_call11_v1]
  simp only [ne_eq, not_true_eq_false, if_false]
  exact hg

/-- The row of the table feature 4 looks up, where the row `R` of the input holds the category `w`. -/
theorem idx4 (x0 : FVec Ideal S4096x4x157 .f32) (R : Fin 16384) (w : Nat) (hw : w < 3)
    (ht : x0 (ix3 ⟨R / 4, by omega⟩ ⟨R % 4, by omega⟩ 4) ≠ (⊤ : EReal)) (hb : x0 (ix3 ⟨R / 4, by omega⟩ ⟨R % 4, by omega⟩ 4) ≠ (⊥ : EReal))
    (hi : FloatOps.fptosi (F := Ideal) (φ := .f32) 32 (x0 (ix3 ⟨R / 4, by omega⟩ ⟨R % 4, by omega⟩ 4)) = BitVec.ofNat 32 w) :
    val_main_v92 (F := Ideal) x0 (ix2 R 0) = BitVec.ofNat 32 (8 + w) := by
  pointwise [val_main_v78, val_main_v79, val_main_v80, val_main_v81, val_main_v82, val_main_v83, val_main_v84, val_main_v85, val_main_v86, val_main_v87, val_main_v88, val_main_v89, val_main_v90, val_main_v91, val_main_v92, val_main_v0, val_main_v1, val_main_call12_v0, val_main_call12_v1, val_main_call12_v2, val_main_call12_v3, val_main_call12_v4, val_main_call12_v5, val_main_call12_v6, val_main_call12_cst, val_main_call12_cst_0, val_main_call12_cst_1, val_main_call12_cst_2, val_main_call12_cst_3, val_main_call12_call0_v0, val_main_call12_call1_v0, val_main_call12_call2_v0, val_main_call13_v0, val_main_call13_v1, val_main_c_15, val_main_c_16, val_main_c_17, val_main_c_18]
  simp only [ne_eq, not_true_eq_false, if_false, bits_top, bits_bot, if_neg ht, if_neg hb, hi]
  exact norm_idx 8 w (by omega)

/-- The value of feature 4. -/
theorem feat4 (x0 : FVec Ideal S4096x4x157 .f32) (x1 : FVec Ideal S45x16 .f32) (x2 : FVec Ideal S1x16 .f32) (R : Fin 16384) (h : Fin 16) (w : Nat)
    (hw : w < 3)
    (ht : x0 (ix3 ⟨R / 4, by omega⟩ ⟨R % 4, by omega⟩ 4) ≠ (⊤ : EReal)) (hb : x0 (ix3 ⟨R / 4, by omega⟩ ⟨R % 4, by omega⟩ 4) ≠ (⊥ : EReal))
    (hi : FloatOps.fptosi (F := Ideal) (φ := .f32) 32 (x0 (ix3 ⟨R / 4, by omega⟩ ⟨R % 4, by omega⟩ 4)) = BitVec.ofNat 32 w) :
    val_main_v96 (F := Ideal) x0 x1 x2 (ix2 R h) = x1 (ix2 ⟨8 + w, by omega⟩ h) := by
  have hg : val_main_v93 (F := Ideal) x0 x1 (ix2 R h) = x1 (ix2 ⟨8 + w, by omega⟩ h) :=
    Routing.gather_row _ rfl rfl rfl rfl rfl _ _ R h ⟨8 + w, by omega⟩ (idx4 x0 R w hw ht hb hi) (by omega)
  pointwise [val_main_v0, val_main_v1, val_main_v80, val_main_v81, val_main_v94, val_main_v95, val_main_v96, val_main_call14_v0, val_main_call14_v1]
  simp only [ne_eq, not_true_eq_false, if_false]
  exact hg

/-- The row of the table feature 5 looks up, where the row `R` of the input holds the category `w`. -/
theorem idx5 (x0 : FVec Ideal S4096x4x157 .f32) (R : Fin 16384) (w : Nat) (hw : w < 3)
    (ht : x0 (ix3 ⟨R / 4, by omega⟩ ⟨R % 4, by omega⟩ 5) ≠ (⊤ : EReal)) (hb : x0 (ix3 ⟨R / 4, by omega⟩ ⟨R % 4, by omega⟩ 5) ≠ (⊥ : EReal))
    (hi : FloatOps.fptosi (F := Ideal) (φ := .f32) 32 (x0 (ix3 ⟨R / 4, by omega⟩ ⟨R % 4, by omega⟩ 5)) = BitVec.ofNat 32 w) :
    val_main_v111 (F := Ideal) x0 (ix2 R 0) = BitVec.ofNat 32 (11 + w) := by
  pointwise [val_main_v97, val_main_v98, val_main_v99, val_main_v100, val_main_v101, val_main_v102, val_main_v103, val_main_v104, val_main_v105, val_main_v106, val_main_v107, val_main_v108, val_main_v109, val_main_v110, val_main_v111, val_main_v0, val_main_v1, val_main_call15_v0, val_main_call15_v1, val_main_call15_v2, val_main_call15_v3, val_main_call15_v4, val_main_call15_v5, val_main_call15_v6, val_main_call15_cst, val_main_call15_cst_0, val_main_call15_cst_1, val_main_call15_cst_2, val_main_call15_cst_3, val_main_call15_call0_v0, val_main_call15_call1_v0, val_main_call15_call2_v0, val_main_call16_v0, val_main_call16_v1, val_main_c_19, val_main_c_20, val_main_c_21, val_main_c_22]
  simp only [ne_eq, not_true_eq_false, if_false, bits_top, bits_bot, if_neg ht, if_neg hb, hi]
  exact norm_idx 11 w (by omega)

/-- The value of feature 5. -/
theorem feat5 (x0 : FVec Ideal S4096x4x157 .f32) (x1 : FVec Ideal S45x16 .f32) (x2 : FVec Ideal S1x16 .f32) (R : Fin 16384) (h : Fin 16) (w : Nat)
    (hw : w < 3)
    (ht : x0 (ix3 ⟨R / 4, by omega⟩ ⟨R % 4, by omega⟩ 5) ≠ (⊤ : EReal)) (hb : x0 (ix3 ⟨R / 4, by omega⟩ ⟨R % 4, by omega⟩ 5) ≠ (⊥ : EReal))
    (hi : FloatOps.fptosi (F := Ideal) (φ := .f32) 32 (x0 (ix3 ⟨R / 4, by omega⟩ ⟨R % 4, by omega⟩ 5)) = BitVec.ofNat 32 w) :
    val_main_v115 (F := Ideal) x0 x1 x2 (ix2 R h) = x1 (ix2 ⟨11 + w, by omega⟩ h) := by
  have hg : val_main_v112 (F := Ideal) x0 x1 (ix2 R h) = x1 (ix2 ⟨11 + w, by omega⟩ h) :=
    Routing.gather_row _ rfl rfl rfl rfl rfl _ _ R h ⟨11 + w, by omega⟩ (idx5 x0 R w hw ht hb hi) (by omega)
  pointwise [val_main_v0, val_main_v1, val_main_v99, val_main_v100, val_main_v113, val_main_v114, val_main_v115, val_main_call17_v0, val_main_call17_v1]
  simp only [ne_eq, not_true_eq_false, if_false]
  exact hg

end Cert.Val
-- ==== Proof.RefCatB.lean ====
/-
  The reference at an index: the embedded value of each categorical feature from 6 to 10.
-/
module

public import proofs.«01_k».proof.Proof.RefScalar

@[expose] public section

set_option maxRecDepth 16384

noncomputable section

namespace Cert.Val

open Idealize.ShloMosaic Idealize.ShloMosaic.TcCoe Idealize.SL.Sem
open Cert.ReferenceIdeal Cert.ReferenceIdeal.Gen Cert.ReferenceIdeal.Read

/-- The row of the table feature 6 looks up, where the row `R` of the input holds the category `w`. -/
theorem idx6 (x0 : FVec Ideal S4096x4x157 .f32) (R : Fin 16384) (w : Nat) (hw : w < 4)
    (ht : x0 (ix3 ⟨R / 4, by omega⟩ ⟨R % 4, by omega⟩ 6) ≠ (⊤ : EReal)) (hb : x0 (ix3 ⟨R / 4, by omega⟩ ⟨R % 4, by omega⟩ 6) ≠ (⊥ : EReal))
    (hi : FloatOps.fptosi (F := Ideal) (φ := .f32) 32 (x0 (ix3 ⟨R / 4, by omega⟩ ⟨R % 4, by omega⟩ 6)) = BitVec.ofNat 32 w) :
    val_main_v130 (F := Ideal) x0 (ix2 R 0) = BitVec.ofNat 32 (14 + w) := by
  pointwise [val_main_v116, val_main_v117, val_main_v118, val_main_v119, val_main_v120, val_main_v121, val_main_v122, val_main_v123, val_main_v124, val_main_v125, val_main_v126, val_main_v127, val_main_v128, val_main_v129, val_main_v130, val_main_v0, val_main_v1, val_main_call18_v0, val_main_call18_v1, val_main_call18_v2, val_main_call18_v3, val_main_call18_v4, val_main_call18_v5, val_main_call18_v6, val_main_call18_cst, val_main_call18_cst_0, val_main_call18_cst_1, val_main_call18_cst_2, val_main_call18_cst_3, val_main_call18_call0_v0, val_main_call18_call1_v0, val_main_call18_call2_v0, val_main_call19_v0, val_main_call19_v1, val_main_c_23, val_main_c_24, val_main_c_25, val_main_c_26]
  simp only [ne_eq, not_true_eq_false, if_false, bits_top, bits_bot, if_neg ht, if_neg hb, hi]
  exact norm_idx 14 w (by omega)

/-- The value of feature 6. -/
theorem feat6 (x0 : FVec Ideal S4096x4x157 .f32) (x1 : FVec Ideal S45x16 .f32) (x2 : FVec Ideal S1x16 .f32) (R : Fin 16384) (h : Fin 16) (w : Nat)
    (hw : w < 4)
    (ht : x0 (ix3 ⟨R / 4, by omega⟩ ⟨R % 4, by omega⟩ 6) ≠ (⊤ : EReal)) (hb : x0 (ix3 ⟨R / 4, by omega⟩ ⟨R % 4, by omega⟩ 6) ≠ (⊥ : EReal))
    (hi : FloatOps.fptosi (F := Ideal) (φ := .f32) 32 (x0 (ix3 ⟨R / 4, by omega⟩ ⟨R % 4, by omega⟩ 6)) = BitVec.ofNat 32 w) :
    val_main_v134 (F := Ideal) x0 x1 x2 (ix2 R h) = x1 (ix2 ⟨14 + w, by omega⟩ h) := by
  have hg : val_main_v131 (F := Ideal) x0 x1 (ix2 R h) = x1 (ix2 ⟨14 + w, by omega⟩ h) :=
    Routing.gather_row _ rfl rfl rfl rfl rfl _ _ R h ⟨14 + w, by omega⟩ (idx6 x0 R w hw ht hb hi) (by omega)
  pointwise [val_main_v0, val_main_v1, val_main_v118, val_main_v119, val_main_v132, val_main_v133, val_main_v134, val_main_call20_v0, val_main_call20_v1]
  simp only [ne_eq, not_true_eq_false, if_false]
  exact hg

/-- The row of the table feature 7 looks up, where the row `R` of the input holds the category `w`. -/
theorem idx7 (x0 : FVec Ideal S4096x4x157 .f32) (R : Fin 16384) (w : Nat) (hw : w < 6)
    (ht : x0 (ix3 ⟨R / 4, by omega⟩ ⟨R % 4, by omega⟩ 7) ≠ (⊤ : EReal)) (hb : x0 (ix3 ⟨R / 4, by omega⟩ ⟨R % 4, by omega⟩ 7) ≠ (⊥ : EReal))
    (hi : FloatOps.fptosi (F := Ideal) (φ := .f32) 32 (x0 (ix3 ⟨R / 4, by omega⟩ ⟨R % 4, by omega⟩ 7)) = BitVec.ofNat 32 w) :
    val_main_v149 (F := Ideal) x0 (ix2 R 0) = BitVec.ofNat 32 (18 + w) := by
  pointwise [val_main_v135, val_main_v136, val_main_v137, val_main_v138, val_main_v139, val_main_v140, val_main_v141, val_main_v142, val_main_v143, val_main_v144, val_main_v145, val_main_v146, val_main_v147, val_main_v148, val_main_v149, val_main_v0, val_main_v1, val_main_call21_v0, val_main_call21_v1, val_main_call21_v2, val_main_call21_v3, val_main_call21_v4, val_main_call21_v5, val_main_call21_v6, val_main_call21_cst, val_main_call21_cst_0, val_main_call21_cst_1, val_main_call21_cst_2, val_main_call21_cst_3, val_main_call21_call0_v0, val_main_call21_call1_v0, val_main_call21_call2_v0, val_main_call22_v0, val_main_call22_v1, val_main_c_27, val_main_c_28, val_main_c_29, val_main_c_30]
  simp only [ne_eq, not_true_eq_false, if_false, bits_top, bits_bot, if_neg ht, if_neg hb, hi]
  exact norm_idx 18 w (by omega)

/-- The value of feature 7. -/
theorem feat7 (x0 : FVec Ideal S4096x4x157 .f32) (x1 : FVec Ideal S45x16 .f32) (x2 : FVec Ideal S1x16 .f32) (R : Fin 16384) (h : Fin 16) (w : Nat)
    (hw : w < 6)
    (ht : x0 (ix3 ⟨R / 4, by omega⟩ ⟨R % 4, by omega⟩ 7) ≠ (⊤ : EReal)) (hb : x0 (ix3 ⟨R / 4, by omega⟩ ⟨R % 4, by omega⟩ 7) ≠ (⊥ : EReal))
    (hi : FloatOps.fptosi (F := Ideal) (φ := .f32) 32 (x0 (ix3 ⟨R / 4, by omega⟩ ⟨R % 4, by omega⟩ 7)) = BitVec.ofNat 32 w) :
    val_main_v153 (F := Ideal) x0 x1 x2 (ix2 R h) = x1 (ix2 ⟨18 + w, by omega⟩ h) := by
  have hg : val_main_v150 (F := Ideal) x0 x1 (ix2 R h) = x1 (ix2 ⟨18 + w, by omega⟩ h) :=
    Routing.gather_row _ rfl rfl rfl rfl rfl _ _ R h ⟨18 + w, by omega⟩ (idx7 x0 R w hw ht hb hi) (by omega)
  pointwise [val_main_v0, val_main_v1, val_main_v137, val_main_v138, val_main_v151, val_main_v152, val_main_v153, val_main_call23_v0, val_main_call23_v1]
  simp only [ne_eq, not_true_eq_false, if_false]
  exact hg

/-- The row of the table feature 8 looks up, where the row `R` of the input holds the category `w`. -/
theorem idx8 (x0 : FVec Ideal S4096x4x157 .f32) (R : Fin 16384) (w : Nat) (hw : w < 7)
    (ht : x0 (ix3 ⟨R / 4, by omega⟩ ⟨R % 4, by omega⟩ 8) ≠ (⊤ : EReal)) (hb : x0 (ix3 ⟨R / 4, by omega⟩ ⟨R % 4, by omega⟩ 8) ≠ (⊥ : EReal))
    (hi : FloatOps.fptosi (F := Ideal) (φ := .f32) 32 (x0 (ix3 ⟨R / 4, by omega⟩ ⟨R % 4, by omega⟩ 8)) = BitVec.ofNat 32 w) :
    val_main_v168 (F := Ideal) x0 (ix2 R 0) = BitVec.ofNat 32 (24 + w) := by
  pointwise [val_main_v154, val_main_v155, val_main_v156, val_main_v157, val_main_v158, val_main_v159, val_main_v160, val_main_v161, val_main_v162, val_main_v163, val_main_v164, val_main_v165, val_main_v166, val_main_v167, val_main_v168, val_main_v0, val_main_v1, val_main_call24_v0, val_main_call24_v1, val_main_call24_v2, val_main_call24_v3, val_main_call24_v4, val_main_call24_v5, val_main_call24_v6, val_main_call24_cst, val_main_call24_cst_0, val_main_call24_cst_1, val_main_call24_cst_2, val_main_call24_cst_3, val_main_call24_call0_v0, val_main_call24_call1_v0, val_main_call24_call2_v0, val_main_call25_v0, val_main_call25_v1, val_main_c_31, val_main_c_32, val_main_c_33, val_main_c_34]
  simp only [ne_eq, not_true_eq_false, if_false, bits_top, bits_bot, if_neg ht, if_neg hb, hi]
  exact norm_idx 24 w (by omega)

/-- The value of feature 8. -/
theorem feat8 (x0 : FVec Ideal S4096x4x157 .f32) (x1 : FVec Ideal S45x16 .f32) (x2 : FVec Ideal S1x16 .f32) (R : Fin 16384) (h : Fin 16) (w : Nat)
    (hw : w < 7)
    (ht : x0 (ix3 ⟨R / 4, by omega⟩ ⟨R % 4, by omega⟩ 8) ≠ (⊤ : EReal)) (hb : x0 (ix3 ⟨R / 4, by omega⟩ ⟨R % 4, by omega⟩ 8) ≠ (⊥ : EReal))
    (hi : FloatOps.fptosi (F := Ideal) (φ := .f32) 32 (x0 (ix3 ⟨R / 4, by omega⟩ ⟨R % 4, by omega⟩ 8)) = BitVec.ofNat 32 w) :
    val_main_v172 (F := Ideal) x0 x1 x2 (ix2 R h) = x1 (ix2 ⟨24 + w, by omega⟩ h) := by
  have hg : val_main_v169 (F := Ideal) x0 x1 (ix2 R h) = x1 (ix2 ⟨24 + w, by omega⟩ h) :=
    Routing.gather_row _ rfl rfl rfl rfl rfl _ _ R h ⟨24 + w, by omega⟩ (idx8 x0 R w hw ht hb hi) (by omega)
  pointwise [val_main_v0, val_main_v1, val_main_v156, val_main_v157, val_main_v170, val_main_v171, val_main_v172, val_main_call26_v0, val_main_call26_v1]
  simp only [ne_eq, not_true_eq_false, if_false]
  exact hg

/-- The row of the table feature 9 looks up, where the row `R` of the input holds the category `w`. -/
theorem idx9 (x0 : FVec Ideal S4096x4x157 .f32) (R : Fin 16384) (w : Nat) (hw : w < 7)
    (ht : x0 (ix3 ⟨R / 4, by omega⟩ ⟨R % 4, by omega⟩ 9) ≠ (⊤ : EReal)) (hb : x0 (ix3 ⟨R / 4, by omega⟩ ⟨R % 4, by omega⟩ 9) ≠ (⊥ : EReal))
    (hi : FloatOps.fptosi (F := Ideal) (φ := .f32) 32 (x0 (ix3 ⟨R / 4, by omega⟩ ⟨R % 4, by omega⟩ 9)) = BitVec.ofNat 32 w) :
    val_main_v187 (F := Ideal) x0 (ix2 R 0) = BitVec.ofNat 32 (31 + w) := by
  pointwise [val_main_v173, val_main_v174, val_main_v175, val_main_v176, val_main_v177, val_main_v178, val_main_v179, val_main_v180, val_main_v181, val_main_v182, val_main_v183, val_main_v184, val_main_v185, val_main_v186, val_main_v187, val_main_v0, val_main_v1, val_main_call27_v0, val_main_call27_v1, val_main_call27_v2, val_main_call27_v3, val_main_call27_v4, val_main_call27_v5, val_main_call27_v6, val_main_call27_cst, val_main_call27_cst_0, val_main_call27_cst_1, val_main_call27_cst_2, val_main_call27_cst_3, val_main_call27_call0_v0, val_main_call27_call1_v0, val_main_call27_call2_v0, val_main_call28_v0, val_main_call28_v1, val_main_c_35, val_main_c_36, val_main_c_37, val_main_c_38]
  simp only [ne_eq, not_true_eq_false, if_false, bits_top, bits_bot, if_neg ht, if_neg hb, hi]
  exact norm_idx 31 w (by omega)

/-- The value of feature 9. -/
theorem feat9 (x0 : FVec Ideal S4096x4x157 .f32) (x1 : FVec Ideal S45x16 .f32) (x2 : FVec Ideal S1x16 .f32) (R : Fin 16384) (h : Fin 16) (w : Nat)
    (hw : w < 7)
    (ht : x0 (ix3 ⟨R / 4, by omega⟩ ⟨R % 4, by omega⟩ 9) ≠ (⊤ : EReal)) (hb : x0 (ix3 ⟨R / 4, by omega⟩ ⟨R % 4, by omega⟩ 9) ≠ (⊥ : EReal))
    (hi : FloatOps.fptosi (F := Ideal) (φ := .f32) 32 (x0 (ix3 ⟨R / 4, by omega⟩ ⟨R % 4, by omega⟩ 9)) = BitVec.ofNat 32 w) :
    val_main_v191 (F := Ideal) x0 x1 x2 (ix2 R h) = x1 (ix2 ⟨31 + w, by omega⟩ h) := by
  have hg : val_main_v188 (F := Ideal) x0 x1 (ix2 R h) = x1 (ix2 ⟨31 + w, by omega⟩ h) :=
    Routing.gather_row _ rfl rfl rfl rfl rfl _ _ R h ⟨31 + w, by omega⟩ (idx9 x0 R w hw ht hb hi) (by omega)
  pointwise [val_main_v0, val_main_v1, val_main_v175, val_main_v176, val_main_v189, val_main_v190, val_main_v191, val_main_call29_v0, val_main_call29_v1]
  simp only [ne_eq, not_true_eq_false, if_false]
  exact hg

/-- The row of the table feature 10 looks up, where the row `R` of the input holds the category `w`. -/
theorem idx10 (x0 : FVec Ideal S4096x4x157 .f32) (R : Fin 16384) (w : Nat) (hw : w < 7)
    (ht : x0 (ix3 ⟨R / 4, by omega⟩ ⟨R % 4, by omega⟩ 10) ≠ (⊤ : EReal)) (hb : x0 (ix3 ⟨R / 4, by omega⟩ ⟨R % 4, by omega⟩ 10) ≠ (⊥ : EReal))
    (hi : FloatOps.fptosi (F := Ideal) (φ := .f32) 32 (x0 (ix3 ⟨R / 4, by omega⟩ ⟨R % 4, by omega⟩ 10)) = BitVec.ofNat 32 w) :
    val_main_v206 (F := Ideal) x0 (ix2 R 0) = BitVec.ofNat 32 (38 + w) := by
  pointwise [val_main_v192, val_main_v193, val_main_v194, val_main_v195, val_main_v196, val_main_v197, val_main_v198, val_main_v199, val_main_v200, val_main_v201, val_main_v202, val_main_v203, val_main_v204, val_main_v205, val_main_v206, val_main_v0, val_main_v1, val_main_call30_v0, val_main_call30_v1, val_main_call30_v2, val_main_call30_v3, val_main_call30_v4, val_main_call30_v5, val_main_call30_v6, val_main_call30_cst, val_main_call30_cst_0, val_main_call30_cst_1, val_main_call30_cst_2, val_main_call30_cst_3, val_main_call30_call0_v0, val_main_call30_call1_v0, val_main_call30_call2_v0, val_main_call31_v0, val_main_call31_v1, val_main_c_39, val_main_c_40, val_main_c_41, val_main_c_42]
  simp only [ne_eq, not_true_eq_false, if_false, bits_top, bits_bot, if_neg ht, if_neg hb, hi]
  exact norm_idx 38 w (by omega)

/-- The value of feature 10. -/
theorem feat10 (x0 : FVec Ideal S4096x4x157 .f32) (x1 : FVec Ideal S45x16 .f32) (x2 : FVec Ideal S1x16 .f32) (R : Fin 16384) (h : Fin 16) (w : Nat)
    (hw : w < 7)
    (ht : x0 (ix3 ⟨R / 4, by omega⟩ ⟨R % 4, by omega⟩ 10) ≠ (⊤ : EReal)) (hb : x0 (ix3 ⟨R / 4, by omega⟩ ⟨R % 4, by omega⟩ 10) ≠ (⊥ : EReal))
    (hi : FloatOps.fptosi (F := Ideal) (φ := .f32) 32 (x0 (ix3 ⟨R / 4, by omega⟩ ⟨R % 4, by omega⟩ 10)) = BitVec.ofNat 32 w) :
    val_main_v210 (F := Ideal) x0 x1 x2 (ix2 R h) = x1 (ix2 ⟨38 + w, by omega⟩ h) := by
  have hg : val_main_v207 (F := Ideal) x0 x1 (ix2 R h) = x1 (ix2 ⟨38 + w, by omega⟩ h) :=
    Routing.gather_row _ rfl rfl rfl rfl rfl _ _ R h ⟨38 + w, by omega⟩ (idx10 x0 R w hw ht hb hi) (by omega)
  pointwise [val_main_v0, val_main_v1, val_main_v194, val_main_v195, val_main_v208, val_main_v209, val_main_v210, val_main_call32_v0, val_main_call32_v1]
  simp only [ne_eq, not_true_eq_false, if_false]
  exact hg

end Cert.Val
-- ==== Proof.Ref.lean ====
/-
  The reference at an index.
-/
module

public import proofs.«01_k».proof.Proof.RefCatA
public import proofs.«01_k».proof.Proof.RefCatB
public import proofs.«01_k».proof.Proof.Spec

@[expose] public section

set_option maxRecDepth 16384

noncomputable section

namespace Cert.Val

open Idealize.ShloMosaic Idealize.ShloMosaic.TcCoe Idealize.SL.Sem
open Cert.ReferenceIdeal Cert.ReferenceIdeal.Gen Cert.ReferenceIdeal.Read

variable (x0 : FVec Ideal S4096x4x157 .f32) (x1 : FVec Ideal S45x16 .f32) (x2 : FVec Ideal S1x16 .f32) (x3 x4 : FVec Ideal S146x16 .f32)
  (x5 : FVec Ideal S157x16 .f32)

/-- The continuous features. -/
theorem ref_cont (R : Fin 16384) (d : Fin 146) (h : Fin 16)
    (ht : x0 (ix3 ⟨R / 4, by omega⟩ ⟨R % 4, by omega⟩ ⟨11 + d, by omega⟩) ≠ (⊤ : EReal))
    (hb : x0 (ix3 ⟨R / 4, by omega⟩ ⟨R % 4, by omega⟩ ⟨11 + d, by omega⟩) ≠ (⊥ : EReal)) :
    val_main_v237 (F := Ideal) x0 x2 x3 x4 (ix3 R d h)
      = x0 (ix3 ⟨R / 4, by omega⟩ ⟨R % 4, by omega⟩ ⟨11 + d, by omega⟩) * x3 (ix2 d h) + x4 (ix2 d h) := by
  pointwise [val_main_v237, val_main_call34_v0, val_main_call34_v1, val_main_v236, val_main_v235, val_main_v234, val_main_v233,
    val_main_v232, val_main_v231, val_main_v230, val_main_v229, val_main_v228, val_main_v227, val_main_v226, val_main_v225,
    val_main_v224, val_main_v223, val_main_v0, val_main_v1, val_main_call33_v0, val_main_call33_v1, val_main_call33_v2,
    val_main_call33_v3, val_main_call33_v4, val_main_call33_v5, val_main_call33_v6, val_main_call33_cst, val_main_call33_cst_0,
    val_main_call33_cst_1, val_main_call33_cst_2, val_main_call33_cst_3, val_main_call33_call0_v0, val_main_call33_call1_v0,
    val_main_call33_call2_v0]
  simp only [ne_eq, not_true_eq_false, if_false, bits_top, bits_bot, if_neg ht, if_neg hb]

/-- The categorical features. -/
theorem ref_cat (R : Fin 16384) (d : Fin 11) (h : Fin 16) (w : Nat) (hw : w < vocabN d)
    (ht : x0 (ix3 ⟨R / 4, by omega⟩ ⟨R % 4, by omega⟩ ⟨d, by omega⟩) ≠ (⊤ : EReal))
    (hb : x0 (ix3 ⟨R / 4, by omega⟩ ⟨R % 4, by omega⟩ ⟨d, by omega⟩) ≠ (⊥ : EReal))
    (hi : FloatOps.fptosi (F := Ideal) (φ := .f32) 32 (x0 (ix3 ⟨R / 4, by omega⟩ ⟨R % 4, by omega⟩ ⟨d, by omega⟩)) = BitVec.ofNat 32 w) :
    val_main_v222 (F := Ideal) x0 x1 x2 (ix3 R d h) = x1 (ix2 ⟨offN d + w, off_cat d w d.isLt hw⟩ h) := by
  pointwise [val_main_v222, val_main_v211, val_main_v212, val_main_v213, val_main_v214, val_main_v215, val_main_v216, val_main_v217,
    val_main_v218, val_main_v219, val_main_v220, val_main_v221]
  fin_vals d with hd
  · obtain rfl : d = 0 := by first | exact hd | exact Fin.ext hd
    exact (feat0 x0 x1 x2 R h w hw ht hb hi).trans (congrArg x1 (congrArg (fun a => ix2 a h) (Fin.ext (Nat.zero_add w).symm)))
  · obtain rfl : d = 1 := by first | exact hd | exact Fin.ext hd
    exact feat1 x0 x1 x2 R h w hw ht hb hi
  · obtain rfl : d = 2 := by first | exact hd | exact Fin.ext hd
    exact feat2 x0 x1 x2 R h w hw ht hb hi
  · obtain rfl : d = 3 := by first | exact hd | exact Fin.ext hd
    exact feat3 x0 x1 x2 R h w hw ht hb hi
  · obtain rfl : d = 4 := by first | exact hd | exact Fin.ext hd
    exact feat4 x0 x1 x2 R h w hw ht hb hi
  · obtain rfl : d = 5 := by first | exact hd | exact Fin.ext hd
    exact feat5 x0 x1 x2 R h w hw ht hb hi
  · obtain rfl : d = 6 := by first | exact hd | exact Fin.ext hd
    exact feat6 x0 x1 x2 R h w hw ht hb hi
  · obtain rfl : d = 7 := by first | exact hd | exact Fin.ext hd
    exact feat7 x0 x1 x2 R h w hw ht hb hi
  · obtain rfl : d = 8 := by first | exact hd | exact Fin.ext hd
    exact feat8 x0 x1 x2 R h w hw ht hb hi
  · obtain rfl : d = 9 := by first | exact hd | exact Fin.ext hd
    exact feat9 x0 x1 x2 R h w hw ht hb hi
  · obtain rfl : d = 10 := by first | exact hd | exact Fin.ext hd
    exact feat10 x0 x1 x2 R h w hw ht hb hi

/-- The embedded features, row by row. -/
theorem ref_embed (b : Fin 4096) (s : Fin 4) (d : Fin 157) (h : Fin 16) (hx : GoodRow fun d => x0 (ix3 b s d)) :
    val_main_v238 (F := Ideal) x0 x1 x2 x3 x4 (ix3 ⟨(b : Nat) * 4 + s, by omega⟩ d h)
      = embed (fun d => x0 (ix3 b s d)) (fun r h => x1 (ix2 r h)) (fun r h => x3 (ix2 r h)) (fun r h => x4 (ix2 r h)) d h := by
  have eb : (⟨((b : Nat) * 4 + s) / 4, by omega⟩ : Fin 4096) = b := Fin.ext (by show ((b : Nat) * 4 + s) / 4 = b; omega)
  have es : (⟨((b : Nat) * 4 + s) % 4, by omega⟩ : Fin 4) = s := Fin.ext (by show ((b : Nat) * 4 + s) % 4 = s; omega)
  pointwise [val_main_v238]
  by_cases hd : (d : Nat) < 11
  · rw [dif_pos hd, embed_cat _ _ _ _ hx d h hd]
    refine ref_cat x0 x1 x2 _ ⟨d, hd⟩ h _ (hx.cat d hd) ?_ ?_ ?_
    · show x0 (ix3 ⟨((b : Nat) * 4 + s) / 4, _⟩ ⟨((b : Nat) * 4 + s) % 4, _⟩ d) ≠ _
      rw [eb, es]; exact hx.top d
    · show x0 (ix3 ⟨((b : Nat) * 4 + s) / 4, _⟩ ⟨((b : Nat) * 4 + s) % 4, _⟩ d) ≠ _
      rw [eb, es]; exact hx.bot d
    · show FloatOps.fptosi 32 (x0 (ix3 ⟨((b : Nat) * 4 + s) / 4, _⟩ ⟨((b : Nat) * 4 + s) % 4, _⟩ d)) = _
      rw [eb, es]; exact catOf_eq _
  · have ed : (⟨11 + ((d : Nat) - 11), by omega⟩ : Fin 157) = d := Fin.ext (by show 11 + ((d : Nat) - 11) = d; omega)
    unfold embed
    rw [dif_neg hd, dif_neg hd]
    refine (ref_cont x0 x2 x3 x4 _ ⟨d - 11, by omega⟩ h ?_ ?_).trans ?_
    · show x0 (ix3 ⟨((b : Nat) * 4 + s) / 4, _⟩ ⟨((b : Nat) * 4 + s) % 4, _⟩ ⟨11 + ((d : Nat) - 11), _⟩) ≠ _
      rw [eb, es, ed]; exact hx.top d
    · show x0 (ix3 ⟨((b : Nat) * 4 + s) / 4, _⟩ ⟨((b : Nat) * 4 + s) % 4, _⟩ ⟨11 + ((d : Nat) - 11), _⟩) ≠ _
      rw [eb, es, ed]; exact hx.bot d
    · show x0 (ix3 ⟨((b : Nat) * 4 + s) / 4, _⟩ ⟨((b : Nat) * 4 + s) % 4, _⟩ ⟨11 + ((d : Nat) - 11), _⟩) * _ + _ = _
      rw [eb, es, ed]

/-- The result of the reference. -/
theorem ref_out (b : Fin 4096) (s : Fin 4) (d : Fin 157) (h : Fin 16) (hx : GoodRow fun d => x0 (ix3 b s d)) :
    val_main_v252 (F := Ideal) x0 x1 x2 x3 x4 x5 (ix4 b s d h)
      = act (embed (fun d => x0 (ix3 b s d)) (fun r h => x1 (ix2 r h)) (fun r h => x3 (ix2 r h)) (fun r h => x4 (ix2 r h))
            ⟨((d : Nat) * 16 + h) % 157, by omega⟩ ⟨((d : Nat) * 16 + h) / 157, by omega⟩ + x5 (ix2 d h)) := by
  pointwise [val_main_v252, val_main_v251, val_main_v250, val_main_v249, val_main_v248, val_main_v247, val_main_v246, val_main_v245,
    val_main_v244, val_main_v243, val_main_v242, val_main_v241, val_main_v240, val_main_v239, val_main_cst, val_main_cst_43]
  rw [ref_embed x0 x1 x2 x3 x4 b s _ _ hx, act_erfc]

end Cert.Val
-- ==== Proof.lean ====
/-
  The five claims: every launched program ends with its arguments unchanged and its counters at zero, and the kernel's result
  equals the reference's on every input whose categories are in range and whose values are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Run
public import proofs.«01_k».proof.Proof.Out
public import proofs.«01_k».proof.Proof.Pre
public import proofs.«01_k».proof.Proof.Ref
public import Idealize.ShloMosaic.Lib.Quiescent

@[expose] public section

set_option maxRecDepth 16384

noncomputable section

namespace Cert.Proof

open Idealize.ShloMosaic Idealize.SL.Sem Cert.Val

/-- The reference's frame: its run, where there are no counters. -/
theorem reference_frame [h : Cert.ReferenceIdeal.Facts] : Cert.quiescent_ReferenceIdeal (hReferenceIdeal := h) := fun m ρ _ =>
  (θ_run _ _ _).mono (fun r h => ⟨fun c => (h c).2, Idealize.ShloMosaic.sem_eq_zero_of_no_sems (by decide) r.2⟩)
    (Cert.ReferenceIdeal.Value.run (F := Ideal) m ρ)

variable (m : (ℓ : Loc Cert.KernelIdeal.nD Cert.KernelIdeal.τ Cert.KernelIdeal.sig) → Buf (Elt Ideal) ℓ)

/-- The two programs' results are equal on the inputs the claim speaks of. -/
theorem results_eq (ρ : Dev Cert.KernelIdeal.nD → PrngReg) (hpre : Cert.Pre_KernelIdeal_in_range m) (c : Dev Cert.KernelIdeal.nD) :
    fl Cert.KernelIdeal.S4096x4x157x16 (Cert.KernelIdeal.Gen.W25 m ρ c (Proc.devRef .tc Cert.KernelIdeal.main_v87))
      = Cert.ReferenceIdeal.Read.val_main_v252 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  funext i
  idx_vars i
  have hx := good_row _ _ _ _ _ _ (hpre c) i0 i1
  exact (kernel_val m ρ c i0 i1 i2 i3 hx).trans (ref_out _ _ _ _ _ _ i0 i1 i2 i3 hx).symm

theorem value_claim : Cert.algebraic_KernelIdeal_ReferenceIdeal_pre_in_range (hKernelIdeal := Cert.KernelIdeal.Gen.facts)
    (hReferenceIdeal := Cert.ReferenceIdeal.Gen.facts) (hPre_in_range := preFacts) := by
  intro m ρ m' ρ' hpre hargs
  refine ⟨fun c => Cert.KernelIdeal.Gen.W25 m ρ c (Proc.devRef .tc Cert.KernelIdeal.main_v87), ?_, ?_⟩
  · exact (θ_run _ _ _).mono (fun r h c => h.1 c) (kernel_run m ρ)
  · refine (θ_run _ _ _).mono (fun r h c => ⟨(h c).1.trans ?_, (h c).2⟩) (Cert.ReferenceIdeal.Value.run (F := Ideal) m' ρ')
    obtain ⟨h0, h1, h2, h3, h4, h5⟩ := hargs c
    have e := Cert.ReferenceIdeal.Read.val_main_v252_eq (F := Ideal) (StableHlo.launchContents m' c)
    refine e.trans ?_
    rw [StableHlo.launchContents_devRef, StableHlo.launchContents_devRef, StableHlo.launchContents_devRef,
      StableHlo.launchContents_devRef, StableHlo.launchContents_devRef, StableHlo.launchContents_devRef, h0, h1, h2, h3, h4, h5]
    exact (results_eq m ρ hpre c).symm

theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, value_claim⟩

end Cert.Proof

end
